-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x1536x2560 : Shape := ⟨3, ![4, 1536, 2560]⟩
abbrev S6400x2560 : Shape := ⟨2, ![6400, 2560]⟩
abbrev S6400x20 : Shape := ⟨2, ![6400, 20]⟩
abbrev S4x1536x20x128 : Shape := ⟨4, ![4, 1536, 20, 128]⟩
abbrev S_ : Shape := ⟨0, ![]⟩
abbrev S4x1536x20 : Shape := ⟨3, ![4, 1536, 20]⟩

class Facts : Prop where
  bitsLt_bf16_f32 : FTy.bits .bf16 < FTy.bits .f32
  shapeCasts_S4x1536x2560_S4x1536x20x128 : S4x1536x2560.ShapeCasts S4x1536x20x128
  reducesTo_S4x1536x20x128_S4x1536x20_d3 : S4x1536x20x128.ReducesTo [3] S4x1536x20
  h_S_ : 0 < S_.numel
  bcast_S_S4x1536x20 : S_.BroadcastsInDim S4x1536x20 (![] : Fin 0 → Fin S4x1536x20.rank)

variable [Facts]

def fn {F : FTy → Type} [FloatOps F] (main_arg0 : FVec F S4x1536x2560 .bf16) (main_arg1 : FVec F S6400x2560 .fp8e4m3) (main_arg2 : FVec F S6400x20 .f32) : IVec S4x1536x20 1 :=
  let main_v0 : FVec F S4x1536x2560 .f32 := (extf .f32 · bitsLt_bf16_f32) main_arg0
  let main_v1 : FVec F S4x1536x20x128 .f32 := shapeCast S4x1536x20x128 main_v0 shapeCasts_S4x1536x2560_S4x1536x20x128
  let main_v2 : FVec F S4x1536x20x128 .f32 := Host.absf main_v1
  let main_cst : FVec F S_ .f32 := constant S_ .f32 0xFF800000#32
  let main_v3 : FVec F S4x1536x20 .f32 := (fun x v => Host.reduce FloatOps.maximumf x v reducesTo_S4x1536x20x128_S4x1536x20_d3 h_S_) main_v2 main_cst
  let main_cst_0 : FVec F S_ .f32 := constant S_ .f32 0x3B124925#32
  let main_v4 : FVec F S4x1536x20 .f32 := broadcastInDim S4x1536x20 ![] bcast_S_S4x1536x20 main_cst_0
  let main_v5 : FVec F S4x1536x20 .f32 := mulf main_v3 main_v4
  let main_cst_1 : FVec F S_ .f32 := constant S_ .f32 0x00000000#32
  let main_v6 : FVec F S4x1536x20 .f32 := broadcastInDim S4x1536x20 ![] bcast_S_S4x1536x20 main_cst_1
  let main_v7 : IVec S4x1536x20 1 := cmpf .oeq main_v5 main_v6
  let main_cst_2 : FVec F S_ .f32 := constant S_ .f32 0x00800000#32
  let main_v8 : FVec F S4x1536x20 .f32 := broadcastInDim S4x1536x20 ![] bcast_S_S4x1536x20 main_cst_2
  let main_v9 : IVec S4x1536x20 1 := cmpf .oge main_v5 main_v8
  let main_cst_3 : FVec F S_ .f32 := constant S_ .f32 0x7E800000#32
  let main_v10 : FVec F S4x1536x20 .f32 := broadcastInDim S4x1536x20 ![] bcast_S_S4x1536x20 main_cst_3
  let main_v11 : IVec S4x1536x20 1 := cmpf .olt main_v5 main_v10
  let main_v12 : IVec S4x1536x20 1 := andi main_v9 main_v11
  let main_v13 : IVec S4x1536x20 1 := ori main_v7 main_v12
  main_v13
-- ==== Kernel.lean ====
abbrev S4x1536x2560 : Shape := ⟨3, ![4, 1536, 2560]⟩
abbrev S6400x2560 : Shape := ⟨2, ![6400, 2560]⟩
abbrev S6400x20 : Shape := ⟨2, ![6400, 20]⟩
abbrev S6144x2560 : Shape := ⟨2, ![6144, 2560]⟩
abbrev S6144x6400 : Shape := ⟨2, ![6144, 6400]⟩
abbrev S6144x20 : Shape := ⟨2, ![6144, 20]⟩
abbrev S512x2560 : Shape := ⟨2, ![512, 2560]⟩
abbrev S256x2560 : Shape := ⟨2, ![256, 2560]⟩
abbrev S256x20 : Shape := ⟨2, ![256, 20]⟩
abbrev S512x256 : Shape := ⟨2, ![512, 256]⟩
abbrev S512x20 : Shape := ⟨2, ![512, 20]⟩
abbrev S25x256x2560 : Shape := ⟨3, ![25, 256, 2560]⟩
abbrev S512x128 : Shape := ⟨2, ![512, 128]⟩
abbrev S512 : Shape := ⟨1, ![512]⟩
abbrev S512x1 : Shape := ⟨2, ![512, 1]⟩
abbrev S256x1 : Shape := ⟨2, ![256, 1]⟩
abbrev S256x128 : Shape := ⟨2, ![256, 128]⟩
abbrev S1x256x128 : Shape := ⟨3, ![1, 256, 128]⟩
abbrev S1x256x2560 : Shape := ⟨3, ![1, 256, 2560]⟩
abbrev S4x1536x6400 : Shape := ⟨3, ![4, 1536, 6400]⟩
abbrev S4x1536x20 : Shape := ⟨3, ![4, 1536, 20]⟩

abbrev nBuf : Space → Nat
  | .hbm => 10
  | .vmem => 14
  | .smem => 0
  | _ => 0

abbrev bufTy : (tb : Table) → Fin (tcTables nBuf tb) → BufTy
  | .hbm, ⟨0, _⟩ => ⟨S4x1536x2560, .bf16⟩
  | .hbm, ⟨1, _⟩ => ⟨S6400x2560, .fp8e4m3⟩
  | .hbm, ⟨2, _⟩ => ⟨S6400x20, .f32⟩
  | .hbm, ⟨3, _⟩ => ⟨S6144x2560, .bf16⟩
  | .hbm, ⟨4, _⟩ => ⟨S6144x6400, .bf16⟩
  | .hbm, ⟨5, _⟩ => ⟨S6144x2560, .fp8e4m3⟩
  | .hbm, ⟨6, _⟩ => ⟨S6144x20, .f32⟩
  | .hbm, ⟨7, _⟩ => ⟨S4x1536x6400, .bf16⟩
  | .hbm, ⟨8, _⟩ => ⟨S4x1536x2560, .fp8e4m3⟩
  | .hbm, ⟨9, _⟩ => ⟨S4x1536x20, .f32⟩
  | .local _ .vmem, ⟨0, _⟩ => ⟨S512x2560, .bf16⟩
  | .local _ .vmem, ⟨1, _⟩ => ⟨S512x2560, .bf16⟩
  | .local _ .vmem, ⟨2, _⟩ => ⟨S256x2560, .fp8e4m3⟩
  | .local _ .vmem, ⟨3, _⟩ => ⟨S256x2560, .fp8e4m3⟩
  | .local _ .vmem, ⟨4, _⟩ => ⟨S256x20, .f32⟩
  | .local _ .vmem, ⟨5, _⟩ => ⟨S256x20, .f32⟩
  | .local _ .vmem, ⟨6, _⟩ => ⟨S512x256, .bf16⟩
  | .local _ .vmem, ⟨7, _⟩ => ⟨S512x256, .bf16⟩
  | .local _ .vmem, ⟨8, _⟩ => ⟨S512x2560, .fp8e4m3⟩
  | .local _ .vmem, ⟨9, _⟩ => ⟨S512x2560, .fp8e4m3⟩
  | .local _ .vmem, ⟨10, _⟩ => ⟨S512x20, .f32⟩
  | .local _ .vmem, ⟨11, _⟩ => ⟨S512x20, .f32⟩
  | .local _ .vmem, ⟨12, _⟩ => ⟨S512x2560, .bf16⟩
  | .local _ .vmem, ⟨13, _⟩ => ⟨S25x256x2560, .bf16⟩
  | _, _ => ⟨S4x1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 25], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v19 : Index := Scalar.indexCast arg1
  let c0_12 : Index := 0#32
  let c0_13 : Index := 0#32
  ![v19.toNat, 0, 0]
def k0_off2 (i : grid0.Coords) : Fin 3 → Nat :=
  let arg1 : BitVec 32 := BitVec.ofNat 32 (i 1).val
  let v29 : Index := Scalar.indexCast arg1
  let c0_16 : Index := 0#32
  let c128_17 : Index := 128#32
  ![v29.toNat, 0, 128]
def k0_off3 (i : grid0.Coords) : Fin 3 → Nat :=
  let arg1 : BitVec 32 := BitVec.ofNat 32 (i 1).val
  let v39 : Index := Scalar.indexCast arg1
  let c0_20 : Index := 0#32
  let c256_21 : Index := 256#32
  ![v39.toNat, 0, 256]
def k0_off4 (i : grid0.Coords) : Fin 3 → Nat :=
  let arg1 : BitVec 32 := BitVec.ofNat 32 (i 1).val
  let v49 : Index := Scalar.indexCast arg1
  let c0_24 : Index := 0#32
  let c384_25 : Index := 384#32
  ![v49.toNat, 0, 384]
def k0_off5 (i : grid0.Coords) : Fin 3 → Nat :=
  let arg1 : BitVec 32 := BitVec.ofNat 32 (i 1).val
  let v59 : Index := Scalar.indexCast arg1
  let c0_28 : Index := 0#32
  let c512_29 : Index := 512#32
  ![v59.toNat, 0, 512]
def k0_off6 (i : grid0.Coords) : Fin 3 → Nat :=
  let arg1 : BitVec 32 := BitVec.ofNat 32 (i 1).val
  let v69 : Index := Scalar.indexCast arg1
  let c0_32 : Index := 0#32
  let c640_33 : Index := 640#32
  ![v69.toNat, 0, 640]
def k0_off7 (i : grid0.Coords) : Fin 3 → Nat :=
  let arg1 : BitVec 32 := BitVec.ofNat 32 (i 1).val
  let v79 : Index := Scalar.indexCast arg1
  let c0_36 : Index := 0#32
  let c768_37 : Index := 768#32
  ![v79.toNat, 0, 768]
def k0_off8 (i : grid0.Coords) : Fin 3 → Nat :=
  let arg1 : BitVec 32 := BitVec.ofNat 32 (i 1).val
  let v89 : Index := Scalar.indexCast arg1
  let c0_40 : Index := 0#32
  let c896_41 : Index := 896#32
  ![v89.toNat, 0, 896]
def k0_off9 (i : grid0.Coords) : Fin 3 → Nat :=
  let arg1 : BitVec 32 := BitVec.ofNat 32 (i 1).val
  let v99 : Index := Scalar.indexCast arg1
  let c0_44 : Index := 0#32
  let c1024_45 : Index := 1024#32
  ![v99.toNat, 0, 1024]
def k0_off10 (i : grid0.Coords) : Fin 3 → Nat :=
  let arg1 : BitVec 32 := BitVec.ofNat 32 (i 1).val
  let v109 : Index := Scalar.indexCast arg1
  let c0_48 : Index := 0#32
  let c1152_49 : Index := 1152#32
  ![v109.toNat, 0, 1152]
def k0_off11 (i : grid0.Coords) : Fin 3 → Nat :=
  let arg1 : BitVec 32 := BitVec.ofNat 32 (i 1).val
  let v119 : Index := Scalar.indexCast arg1
  let c0_52 : Index := 0#32
  let c1280_53 : Index := 1280#32
  ![v119.toNat, 0, 1280]
def k0_off12 (i : grid0.Coords) : Fin 3 → Nat :=
  let arg1 : BitVec 32 := BitVec.ofNat 32 (i 1).val
  let v129 : Index := Scalar.indexCast arg1
  let c0_56 : Index := 0#32
  let c1408_57 : Index := 1408#32
  ![v129.toNat, 0, 1408]
def k0_off13 (i : grid0.Coords) : Fin 3 → Nat :=
  let arg1 : BitVec 32 := BitVec.ofNat 32 (i 1).val
  let v139 : Index := Scalar.indexCast arg1
  let c0_60 : Index := 0#32
  let c1536_61 : Index := 1536#32
  ![v139.toNat, 0, 1536]
def k0_off14 (i : grid0.Coords) : Fin 3 → Nat :=
  let arg1 : BitVec 32 := BitVec.ofNat 32 (i 1).val
  let v149 : Index := Scalar.indexCast arg1
  let c0_64 : Index := 0#32
  let c1664_65 : Index := 1664#32
  ![v149.toNat, 0, 1664]
def k0_off15 (i : grid0.Coords) : Fin 3 → Nat :=
  let arg1 : BitVec 32 := BitVec.ofNat 32 (i 1).val
  let v159 : Index := Scalar.indexCast arg1
  let c0_68 : Index := 0#32
  let c1792_69 : Index := 1792#32
  ![v159.toNat, 0, 1792]
def k0_off16 (i : grid0.Coords) : Fin 3 → Nat :=
  let arg1 : BitVec 32 := BitVec.ofNat 32 (i 1).val
  let v169 : Index := Scalar.indexCast arg1
  let c0_72 : Index := 0#32
  let c1920_73 : Index := 1920#32
  ![v169.toNat, 0, 1920]
def k0_off17 (i : grid0.Coords) : Fin 3 → Nat :=
  let arg1 : BitVec 32 := BitVec.ofNat 32 (i 1).val
  let v179 : Index := Scalar.indexCast arg1
  let c0_76 : Index := 0#32
  let c2048_77 : Index := 2048#32
  ![v179.toNat, 0, 2048]
def k0_off18 (i : grid0.Coords) : Fin 3 → Nat :=
  let arg1 : BitVec 32 := BitVec.ofNat 32 (i 1).val
  let v189 : Index := Scalar.indexCast arg1
  let c0_80 : Index := 0#32
  let c2176_81 : Index := 2176#32
  ![v189.toNat, 0, 2176]
def k0_off19 (i : grid0.Coords) : Fin 3 → Nat :=
  let arg1 : BitVec 32 := BitVec.ofNat 32 (i 1).val
  let v199 : Index := Scalar.indexCast arg1
  let c0_84 : Index := 0#32
  let c2304_85 : Index := 2304#32
  ![v199.toNat, 0, 2304]
def k0_off20 (i : grid0.Coords) : Fin 3 → Nat :=
  let arg1 : BitVec 32 := BitVec.ofNat 32 (i 1).val
  let v209 : Index := Scalar.indexCast arg1
  let c0_88 : Index := 0#32
  let c2432_89 : Index := 2432#32
  ![v209.toNat, 0, 2432]
def k0_off21 (i : grid0.Coords) : Fin 3 → Nat :=
  let arg1 : BitVec 32 := BitVec.ofNat 32 (i 1).val
  let v7 : Index := Scalar.indexCast arg1
  let c0_4 : Index := 0#32
  let c0_5 : Index := 0#32
  ![v7.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.select v0 arg1 c24_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.select v0 arg1 c24_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2560 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x1536x2560 : Shape := ⟨3, ![4, 1536, 2560]⟩
abbrev S6400x2560 : Shape := ⟨2, ![6400, 2560]⟩
abbrev S6400x20 : Shape := ⟨2, ![6400, 20]⟩
abbrev S4x1536x6400 : Shape := ⟨3, ![4, 1536, 6400]⟩
abbrev S4x1536x20 : Shape := ⟨3, ![4, 1536, 20]⟩
abbrev S4x1536x20x128 : Shape := ⟨4, ![4, 1536, 20, 128]⟩
abbrev S4x1536x20x1 : Shape := ⟨4, ![4, 1536, 20, 1]⟩
abbrev S6400x20x128 : Shape := ⟨3, ![6400, 20, 128]⟩
abbrev S6400x20x1 : Shape := ⟨3, ![6400, 20, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x1536x2560, .bf16⟩
  | .hbm, ⟨1, _⟩ => ⟨S6400x2560, .fp8e4m3⟩
  | .hbm, ⟨2, _⟩ => ⟨S6400x20, .f32⟩
  | .hbm, ⟨3, _⟩ => ⟨S4x1536x6400, .bf16⟩
  | .hbm, ⟨4, _⟩ => ⟨S4x1536x2560, .fp8e4m3⟩
  | .hbm, ⟨5, _⟩ => ⟨S4x1536x20, .f32⟩
  | .local _ .vmem, ⟨0, _⟩ => ⟨S4x1536x2560, .bf16⟩
  | .local _ .vmem, ⟨1, _⟩ => ⟨S6400x2560, .fp8e4m3⟩
  | .local _ .vmem, ⟨2, _⟩ => ⟨S6400x20, .f32⟩
  | .local _ .vmem, ⟨3, _⟩ => ⟨S4x1536x6400, .bf16⟩
  | .local _ .vmem, ⟨4, _⟩ => ⟨S4x1536x2560, .fp8e4m3⟩
  | .local _ .vmem, ⟨5, _⟩ => ⟨S4x1536x20, .f32⟩
  | _, _ => ⟨S4x1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6400x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6400x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1536x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1536x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1536x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Runs.lean ====
/- Which branches of the body each point of the grid takes, and where its windows are idle: what the runs of the body share. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 25) — by arithmetic of the point. -/
theorem hcond0_0 : ∀ t : Fin cfg0.N, cond0_0 (grid0.coords t) ↔ t.val % 25 = 0 :=
  (fun t => by
    have ht : t.val < 300 := Nat.lt_of_lt_of_eq t.isLt N_0
    have e0 : (grid0.coords t 0).val = t.val / 25 % 12 := Pipeline.Grid.coords_val t 0 (by decide) rfl
    have e1 : (grid0.coords t 1).val = t.val / 1 % 25 := Pipeline.Grid.coords_val t 1 (by decide) rfl
    simp only [cond0_0, k0_cond1, e0, e1]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at the points before point 25 — by arithmetic of the point. -/
theorem hcond0_1 : ∀ t : Fin cfg0.N, cond0_1 (grid0.coords t) ↔ t.val < 25 :=
  (fun t => by
    have ht : t.val < 300 := Nat.lt_of_lt_of_eq t.isLt N_0
    have e0 : (grid0.coords t 0).val = t.val / 25 % 12 := Pipeline.Grid.coords_val t 0 (by decide) rfl
    have e1 : (grid0.coords t 1).val = t.val / 1 % 25 := Pipeline.Grid.coords_val t 1 (by decide) rfl
    simp only [cond0_1, k0_cond2, e0, e1]
    word_cmp
   : ∀ t : Fin grid0.N, cond0_1 (grid0.coords t) ↔ t.val < 25)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2560 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x20 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2560 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x20 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x2560 .bf16 := Memref.whole cc0_scratch0
abbrev scM0_1 : Memref sig .tc .vmem S25x256x2560 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Tiles.lean ====
/- What one run of the kernel body leaves in its buffers, in closed form: the tile of codes, of scales and of dequantised
   activations that a block of rows gives, the slab of dequantised weights that a block of the weights gives, and how a piece
   stored group by group sits in them. -/
module

public import proofs.«01_k».proof.Proof.Runs
public import Idealize.ShloMosaic.Lib.ValueIdxCore
public import Idealize.ShloMosaic.Lib.WritesUnit
public import Idealize.ShloMosaic.Lib.Pipeline.Value

@[expose] public section

set_option maxRecDepth 16384

noncomputable section

namespace Cert.KernelIdeal.Gen

open Idealize.ShloMosaic Idealize.ShloMosaic.TcCoe Idealize.ShloMosaic.ValueIdx
open Idealize.SL Idealize.SL.RA Idealize.SL.Sem

variable {F : FTy → Type} [FloatOps F]

/-! ## Column groups -/

theorem xcol_inb (g : Fin 20) : ∀ a, (![0, 128 * g.val] : Fin 2 → ℕ) a + S512x128.size a ≤ S512x2560.size a := by
  revert g; decide
theorem wcol_inb (g : Fin 20) : ∀ a, (![0, 128 * g.val] : Fin 2 → ℕ) a + S256x128.size a ≤ S256x2560.size a := by
  revert g; decide
theorem scol_inb (g : Fin 20) : ∀ a, (![0, g.val] : Fin 2 → ℕ) a + S256x1.size a ≤ S256x20.size a := by
  revert g; decide

/-- Group `g` of a block of activations: its columns `128 g` to `128 g + 127`. -/
def xgrp (x : Vec F S512x2560 .bf16) (g : Fin 20) : Vec F S512x128 .bf16 :=
  View.ld (Val := Elt F) x (Rect.unit ![0, 128 * g.val] S512x128.size (xcol_inb g))
/-- Group `g` of a block of weight codes. -/
def wgrp (w : Vec F S256x2560 .fp8e4m3) (g : Fin 20) : Vec F S256x128 .fp8e4m3 :=
  View.ld (Val := Elt F) w (Rect.unit ![0, 128 * g.val] S256x128.size (wcol_inb g))
/-- Group `g`'s column of a block of weight scales. -/
def sgrp (s : Vec F S256x20 .f32) (g : Fin 20) : Vec F S256x1 .f32 :=
  View.ld (Val := Elt F) s (Rect.unit ![0, g.val] S256x1.size (scol_inb g))

/-! ## Tiles -/

/-- A tile whose columns of group `g` are `f` of the activations' group `g`. -/
def grpTile {e : EltTy} (f : Vec F S512x128 .bf16 → Vec F S512x128 e) (x : Vec F S512x2560 .bf16) : Vec F S512x2560 e :=
  fun y => f (xgrp x ⟨(y 1).val / 128, by have : (y 1).val < 2560 := (y 1).isLt; omega⟩)
    (ix2 (y 0) ⟨(y 1).val % 128, Nat.mod_lt _ (by omega)⟩)

/-- The codes of a block of activations; -/
def codesTile (x : Vec F S512x2560 .bf16) : Vec F S512x2560 .fp8e4m3 := grpTile k0_pay9 x
/-- the dequantised activations; -/
def deqTile (x : Vec F S512x2560 .bf16) : Vec F S512x2560 .bf16 := grpTile (fun v => k0_pay10 (k0_pay8 v) (k0_pay9 v)) x
/-- its scales, a column per group; -/
def scaleTile (x : Vec F S512x2560 .bf16) : Vec F S512x20 .f32 :=
  fun y => k0_pay8 (xgrp x (y 1)) (ix2 (y 0) 0)
/-- a slab of dequantised weights. -/
def wdSlab (w : Vec F S256x2560 .fp8e4m3) (s : Vec F S256x20 .f32) : Vec F S1x256x2560 .bf16 :=
  fun y => k0_pay2 (sgrp s ⟨(y 2).val / 128, by have : (y 2).val < 2560 := (y 2).isLt; omega⟩)
    (wgrp w ⟨(y 2).val / 128, by have : (y 2).val < 2560 := (y 2).isLt; omega⟩)
    (ix3 0 (y 1) ⟨(y 2).val % 128, Nat.mod_lt _ (by omega)⟩)

/-- Slab `n` of the weights' scratch, -/
def slab (d : Vec F S25x256x2560 .bf16) (n : Fin 25) : Vec F S1x256x2560 .bf16 := fun y => d (ix3 n (y 1) (y 2))
/-- and the scratch with slab `n` replaced. -/
def updSlab (d : Vec F S25x256x2560 .bf16) (n : Fin 25) (w : Vec F S1x256x2560 .bf16) : Vec F S25x256x2560 .bf16 :=
  fun y => if (y 0).val = n.val then w (ix3 0 (y 1) (y 2)) else d y

theorem slab_updSlab (d : Vec F S25x256x2560 .bf16) (n : Fin 25) (w : Vec F S1x256x2560 .bf16) :
    slab (updSlab d n w) n = w := by
  funext y
  unfold slab updSlab
  rw [if_pos (show ((ix3 n (y 1) (y 2) : S25x256x2560.Idx) 0).val = n.val from rfl)]
  congr 1
  funext a
  match a with
  | ⟨0, _⟩ => exact (Fin.fin_one_eq_zero _).symm
  | ⟨1, _⟩ => rfl
  | ⟨2, _⟩ => rfl

theorem slab_updSlab_of_ne (d : Vec F S25x256x2560 .bf16) (n k : Fin 25) (w : Vec F S1x256x2560 .bf16) (h : k ≠ n) :
    slab (updSlab d n w) k = slab d k := by
  funext y
  unfold slab updSlab
  rw [if_neg (show ¬ ((ix3 k (y 1) (y 2) : S25x256x2560.Idx) 0).val = n.val from fun e => h (Fin.ext e))]

/-! ## A stored piece sits in its tile -/

/-- The piece of group `g` sits in the tile. -/
theorem grpTile_piece {e : EltTy} (f : Vec F S512x128 .bf16 → Vec F S512x128 e) (x : Vec F S512x2560 .bf16) (g : Fin 20)
    (z : (Rect.unit (s := S512x2560) ![0, 128 * g.val] S512x128.size (xcol_inb g)).shape.Idx) :
    f (xgrp x g) z = grpTile f x ((Rect.unit (s := S512x2560) ![0, 128 * g.val] S512x128.size (xcol_inb g)).emb z) := by
  have h0 : ((Rect.unit (s := S512x2560) ![0, 128 * g.val] S512x128.size (xcol_inb g)).emb z 0).val = (z 0).val := by
    show 0 + 1 * (z 0).val = _; omega
  have h1 : ((Rect.unit (s := S512x2560) ![0, 128 * g.val] S512x128.size (xcol_inb g)).emb z 1).val = 128 * g.val + (z 1).val := by
    show 128 * g.val + 1 * (z 1).val = _; omega
  have hz : (z 1).val < 128 := (z 1).isLt
  unfold grpTile
  have hg : (⟨((Rect.unit (s := S512x2560) ![0, 128 * g.val] S512x128.size (xcol_inb g)).emb z 1).val / 128, by omega⟩ : Fin 20) = g :=
    Fin.ext (by show _ / 128 = _; omega)
  rw [hg]
  congr 1
  funext a
  match a with
  | ⟨0, _⟩ => exact Fin.ext h0.symm
  | ⟨1, _⟩ => exact Fin.ext (by show _ = _ % 128; rw [h1]; show (z 1).val = _; omega)

theorem out_scol_inb (g : Fin 20) : ∀ a, (![0, g.val] : Fin 2 → ℕ) a + S512x1.size a ≤ S512x20.size a := by
  revert g; decide

/-- The column of group `g` sits in the tile of scales. -/
theorem scaleTile_piece (x : Vec F S512x2560 .bf16) (g : Fin 20)
    (z : (Rect.unit (s := S512x20) ![0, g.val] S512x1.size (out_scol_inb g)).shape.Idx) :
    k0_pay8 (xgrp x g) z = scaleTile x ((Rect.unit (s := S512x20) ![0, g.val] S512x1.size (out_scol_inb g)).emb z) := by
  have hz : (z 1).val < 1 := (z 1).isLt
  have hg : ((Rect.unit (s := S512x20) ![0, g.val] S512x1.size (out_scol_inb g)).emb z 1) = g :=
    Fin.ext (by show g.val + 1 * (z 1).val = _; omega)
  unfold scaleTile
  rw [hg]
  congr 1
  funext a
  match a with
  | ⟨0, _⟩ => exact Fin.ext (by show (z 0).val = 0 + 1 * (z 0).val; omega)
  | ⟨1, _⟩ => exact Fin.ext (by show (z 1).val = 0; omega)

end Cert.KernelIdeal.Gen

end
-- ==== Proof.Pieces.lean ====
/- The writes the body makes group by group, as one list of pieces: what a buffer reads after the twenty pieces of a tile, of
   a tile of scales, or of a slab of the weights' scratch. -/
module

public import proofs.«01_k».proof.Proof.Tiles

@[expose] public section

set_option maxRecDepth 16384

noncomputable section

namespace Cert.KernelIdeal.Gen

open Idealize.ShloMosaic Idealize.ShloMosaic.TcCoe Idealize.ShloMosaic.ValueIdx
open Idealize.SL Idealize.SL.RA Idealize.SL.Sem

variable {F : FTy → Type} [FloatOps F]

/-- `Pieces off size pay k L`: the list `L` (newest first) is the pieces `0 … k - 1`, piece `g` at offsets `off g` with payload
    `pay g`. -/
inductive Pieces {Val : EltTy → Type} {S : Shape} {e : EltTy} (off : ℕ → Fin S.rank → ℕ) (size : Fin S.rank → ℕ)
    (pay : (g : Fin 20) → ((a : Fin S.rank) → Fin (size a)) → Val e) : ℕ → List (View.Piece Val S e) → Prop
  | nil : Pieces off size pay 0 []
  | cons (k : ℕ) (hk : k < 20) (o : Fin S.rank → ℕ) (inb : ∀ a, o a + size a ≤ S.size a)
      (w : ((a : Fin S.rank) → Fin (size a)) → Val e) (L : List (View.Piece Val S e)) (ho : o = off k) (hw : w = pay ⟨k, hk⟩)
      (hL : Pieces off size pay k L) : Pieces off size pay (k + 1) (⟨Rect.unit o size inb, w⟩ :: L)

section Pieces

variable {Val : EltTy → Type} {S : Shape} {e : EltTy} {off : ℕ → Fin S.rank → ℕ} {size : Fin S.rank → ℕ}
  {pay : (g : Fin 20) → ((a : Fin S.rank) → Fin (size a)) → Val e}

/-- Every piece of the list agrees with a function that its payload agrees with at its offsets. -/
theorem Pieces.agrees (G : S.Idx → Val e)
    (h : ∀ (g : Fin 20) (inb) (z : (Rect.unit (s := S) (off g.val) size inb).shape.Idx),
      pay g z = G ((Rect.unit (s := S) (off g.val) size inb).emb z)) {k : ℕ} {L : List (View.Piece Val S e)}
    (hL : Pieces off size pay k L) : ∀ p ∈ L, ∀ z : p.1.shape.Idx, p.2 z = G (p.1.emb z) := by
  induction hL with
  | nil => intro p hp; cases hp
  | cons k hk o inb w L ho hw hL ih =>
    intro p hp
    rcases List.mem_cons.mp hp with rfl | hp
    · subst ho; subst hw
      exact fun z => h ⟨k, hk⟩ inb z
    · exact ih p hp

/-- Piece `g < k` is in the list, at its offsets. -/
theorem Pieces.mem {k : ℕ} {L : List (View.Piece Val S e)} (hL : Pieces off size pay k L) (g : ℕ) (hg : g < k) (y : S.Idx)
    (hy : ∀ a, off g a ≤ (y a).val ∧ (y a).val < off g a + size a) : ∃ p ∈ L, y ∈ p.1.set := by
  induction hL with
  | nil => omega
  | cons k hk o inb w L ho hw hL ih =>
    by_cases hgk : g = k
    · subst hgk; subst ho
      exact ⟨_, List.mem_cons_self, (Rect.mem_set_unit (inb := inb)).mpr hy⟩
    · obtain ⟨p, hp, h⟩ := ih (by omega)
      exact ⟨p, List.mem_cons_of_mem _ hp, h⟩

/-- A place that no piece's offsets hold is in no piece. -/
theorem Pieces.not_mem {k : ℕ} {L : List (View.Piece Val S e)} (hL : Pieces off size pay k L) (y : S.Idx)
    (hy : ∀ g, ¬ ∀ a, off g a ≤ (y a).val ∧ (y a).val < off g a + size a) : ∀ p ∈ L, y ∉ p.1.set := by
  induction hL with
  | nil => intro p hp; cases hp
  | cons k hk o inb w L ho hw hL ih =>
    intro p hp
    rcases List.mem_cons.mp hp with rfl | hp
    · subst ho
      exact fun h => hy k ((Rect.mem_set_unit (inb := inb)).mp h)
    · exact ih p hp

end Pieces

section Reads

variable {sig' : RefSig} {κ : Kind} {sp : Space}

/-- The twenty column groups of a tile, read back. -/
theorem grpTile_read {e : EltTy} (fn : Vec F S512x128 .bf16 → Vec F S512x128 e) (x : Vec F S512x2560 .bf16)
    (v : View sig' κ sp S512x2560 e) (f : v.ty.Contents (Elt F)) {L : List (View.Piece (Elt F) S512x2560 e)}
    (hL : Pieces (S := S512x2560) (fun g => ![0, 128 * g]) S512x128.size (fun g => fn (xgrp x g)) 20 L) :
    v.read (Elt F) (v.writes (Elt F) f L) = grpTile fn x := by
  funext y
  refine View.read_writes_apply_of_pieces v f _ L (hL.agrees _ fun g inb z => grpTile_piece fn x g z) y ?_
  have h0 : (y 0).val < 512 := (y 0).isLt
  have h1 : (y 1).val < 2560 := (y 1).isLt
  refine hL.mem ((y 1).val / 128) (by omega) y fun a => ?_
  match a with
  | ⟨0, _⟩ => exact ⟨Nat.zero_le _, by show (y 0).val < 0 + 512; omega⟩
  | ⟨1, _⟩ => exact ⟨by show 128 * ((y 1).val / 128) ≤ (y 1).val; omega,
      by show (y 1).val < 128 * ((y 1).val / 128) + 128; omega⟩

/-- The twenty columns of a tile of scales, read back. -/
theorem scaleTile_read (x : Vec F S512x2560 .bf16)
    (v : View sig' κ sp S512x20 .f32) (f : v.ty.Contents (Elt F)) {L : List (View.Piece (Elt F) S512x20 .f32)}
    (hL : Pieces (S := S512x20) (fun g => ![0, g]) S512x1.size (fun g => k0_pay8 (xgrp x g)) 20 L) :
    v.read (Elt F) (v.writes (Elt F) f L) = scaleTile x := by
  funext y
  refine View.read_writes_apply_of_pieces v f (scaleTile x) L (hL.agrees (scaleTile x) fun g inb z => ?_) y ?_
  · beta_reduce
    exact scaleTile_piece x g z
  have h0 : (y 0).val < 512 := (y 0).isLt
  have h1 : (y 1).val < 20 := (y 1).isLt
  refine hL.mem (y 1).val h1 y fun a => ?_
  match a with
  | ⟨0, _⟩ => exact ⟨Nat.zero_le _, by show (y 0).val < 0 + 512; omega⟩
  | ⟨1, _⟩ => exact ⟨le_rfl, Nat.lt_succ_self _⟩

/-- The twenty pieces of slab `n`, read back: the slab replaced, the rest as it was. -/
theorem slab_read (n : Fin 25) (w : Vec F S256x2560 .fp8e4m3) (s : Vec F S256x20 .f32)
    (v : View sig' κ sp S25x256x2560 .bf16) (f : v.ty.Contents (Elt F)) {L : List (View.Piece (Elt F) S25x256x2560 .bf16)}
    (hL : Pieces (S := S25x256x2560) (fun g => ![n.val, 0, 128 * g]) S1x256x128.size
      (fun g => k0_pay2 (sgrp s g) (wgrp w g)) 20 L) :
    v.read (Elt F) (v.writes (Elt F) f L) = updSlab (v.read (Elt F) f) n (wdSlab w s) := by
  funext y
  have h1 : (y 1).val < 256 := (y 1).isLt
  have h2 : (y 2).val < 2560 := (y 2).isLt
  by_cases hn : (y 0).val = n.val
  · refine View.read_writes_apply_of_pieces v f _ L (hL.agrees _ fun g inb z => ?_) y ?_
    · have e0 : ((Rect.unit (s := S25x256x2560) ![n.val, 0, 128 * g.val] S1x256x128.size inb).emb z 0).val = n.val := by
        have : (z 0).val < 1 := (z 0).isLt
        show n.val + 1 * (z 0).val = _; omega
      have e1 : ((Rect.unit (s := S25x256x2560) ![n.val, 0, 128 * g.val] S1x256x128.size inb).emb z 1).val = (z 1).val := by
        show 0 + 1 * (z 1).val = _; omega
      have e2 : ((Rect.unit (s := S25x256x2560) ![n.val, 0, 128 * g.val] S1x256x128.size inb).emb z 2).val = 128 * g.val + (z 2).val := by
        show 128 * g.val + 1 * (z 2).val = _; omega
      have hz0 : (z 0).val < 1 := (z 0).isLt
      have hz : (z 2).val < 128 := (z 2).isLt
      unfold updSlab
      rw [if_pos e0]
      unfold wdSlab
      have hg : (⟨((Rect.unit (s := S25x256x2560) ![n.val, 0, 128 * g.val] S1x256x128.size inb).emb z 2).val / 128, by omega⟩ : Fin 20) = g :=
        Fin.ext (by show _ / 128 = _; omega)
      show k0_pay2 (sgrp s g) (wgrp w g) z = k0_pay2 (sgrp s ⟨((Rect.unit (s := S25x256x2560) ![n.val, 0, 128 * g.val] S1x256x128.size inb).emb z 2).val / 128, _⟩) (wgrp w ⟨((Rect.unit (s := S25x256x2560) ![n.val, 0, 128 * g.val] S1x256x128.size inb).emb z 2).val / 128, _⟩) _
      rw [hg]
      congr 1
      funext a
      match a with
      | ⟨0, _⟩ => exact Fin.ext (by show (z 0).val = 0; omega)
      | ⟨1, _⟩ => exact Fin.ext e1.symm
      | ⟨2, _⟩ => exact Fin.ext (by show (z 2).val = ((Rect.unit (s := S25x256x2560) ![n.val, 0, 128 * g.val] S1x256x128.size inb).emb z 2).val % 128; omega)
    · refine hL.mem ((y 2).val / 128) (by omega) y fun a => ?_
      match a with
      | ⟨0, _⟩ => exact ⟨by show n.val ≤ (y 0).val; omega, by show (y 0).val < n.val + 1; omega⟩
      | ⟨1, _⟩ => exact ⟨Nat.zero_le _, by show (y 1).val < 0 + 256; omega⟩
      | ⟨2, _⟩ => exact ⟨by show 128 * ((y 2).val / 128) ≤ (y 2).val; omega,
          by show (y 2).val < 128 * ((y 2).val / 128) + 128; omega⟩
  · rw [View.read_writes_apply_of_forall_not_mem v f y L (hL.not_mem y fun g h => ?_)]
    · unfold updSlab; rw [if_neg hn]
    · have := h 0
      have h' : n.val ≤ (y 0).val ∧ (y 0).val < n.val + 1 := this
      omega

/-- One store over the whole of a result tile leaves its payload. -/
theorem tile_read (v : View sig' κ sp S512x256 .bf16) (f : v.ty.Contents (Elt F))
    (inb : ∀ a, (![0, 0] : Fin 2 → ℕ) a + S512x256.size a ≤ S512x256.size a) (w : Vec F S512x256 .bf16) :
    v.read (Elt F) (v.writes (Elt F) f [⟨Rect.unit ![0, 0] S512x256.size inb, w⟩]) = w := by
  funext y
  refine View.read_writes_cons_hit_of_coords v f (Rect.unit ![0, 0] S512x256.size inb) w [] y y fun a => ?_
  match a with
  | ⟨0, _⟩ => show (y 0).val = 0 + 1 * (y 0).val; omega
  | ⟨1, _⟩ => show (y 1).val = 0 + 1 * (y 1).val; omega

end Reads

/-! ## Loads -/

/-- A whole-tile load reads the contents. -/
theorem ld_whole {e : EltTy} {r c : ℕ} (d : Vec F ⟨2, ![r, c]⟩ e) (inb : ∀ a, (![0, 0] : Fin 2 → ℕ) a + (![r, c] : Fin 2 → ℕ) a ≤ (⟨2, ![r, c]⟩ : Shape).size a) :
    View.ld (Val := Elt F) (S := ⟨2, ![r, c]⟩) d (Rect.unit ![0, 0] ![r, c] inb) = d :=
  View.ld_unit_zero (S := ⟨2, ![r, c]⟩) (by funext a; match a with | ⟨0, _⟩ => rfl | ⟨1, _⟩ => rfl) inb d

/-- A load of slab `n` reads the slab. -/
theorem ld_slab (d : Vec F S25x256x2560 .bf16) (n : Fin 25) (o : Fin 3 → ℕ) (ho : o = ![n.val, 0, 0]) (inb : ∀ a, o a + S1x256x2560.size a ≤ S25x256x2560.size a) :
    View.ld (Val := Elt F) d (Rect.unit o S1x256x2560.size inb) = slab d n := by
  subst ho
  funext y
  show d _ = d _
  congr 1
  funext a
  have h0 : (y 0).val < 1 := (y 0).isLt
  match a with
  | ⟨0, _⟩ => exact Fin.ext (by show n.val + 1 * (y 0).val = n.val; omega)
  | ⟨1, _⟩ => exact Fin.ext (by show 0 + 1 * (y 1).val = (y 1).val; omega)
  | ⟨2, _⟩ => exact Fin.ext (by show 0 + 1 * (y 2).val = (y 2).val; omega)

/-! ## The slab's number, as the body computes it -/

/-- Grid coordinate 1, as the number of a slab. -/
def slabNo (i : grid0.Coords) : Fin 25 := ⟨(i 1).val, (i 1).isLt⟩

theorem off_eq (i : grid0.Coords) (o : ℕ) :
    (![(Scalar.indexCast (BitVec.ofNat 32 (i 1).val)).toNat, 0, o] : Fin 3 → ℕ) = ![(slabNo i).val, 0, o] := by
  have h : (i 1).val < 25 := (i 1).isLt
  have e : (Scalar.indexCast (BitVec.ofNat 32 (i 1).val)).toNat = (i 1).val := by
    show (BitVec.ofNat 32 (i 1).val).toNat = _
    rw [BitVec.toNat_ofNat]; omega
  rw [e]; rfl

end Cert.KernelIdeal.Gen

end
-- ==== Proof.RunA.lean ====
/- The kernel body run at the first point of the first row block. -/
module

public import proofs.«01_k».proof.Proof.Pieces

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's eight buffers on core `c`, each owned whole at the contents named. -/
def held (c : Dev nD) (arg2 : Memref sig .tc .vmem S512x2560 .bf16) (arg3 : Memref sig .tc .vmem S256x2560 .fp8e4m3)
    (arg4 : Memref sig .tc .vmem S256x20 .f32) (arg5 : Memref sig .tc .vmem S512x256 .bf16)
    (arg6 : Memref sig .tc .vmem S512x2560 .fp8e4m3) (arg7 : Memref sig .tc .vmem S512x20 .f32)
    (arg8 : Memref sig .tc .vmem S512x2560 .bf16) (arg9 : Memref sig .tc .vmem S25x256x2560 .bf16)
    (x0 : Vec F S512x2560 .bf16) (x1 : Vec F S256x2560 .fp8e4m3) (x2 : Vec F S256x20 .f32) (y : Vec F S512x256 .bf16)
    (codes : Vec F S512x2560 .fp8e4m3) (scales : Vec F S512x20 .f32) (xd : Vec F S512x2560 .bf16)
    (wd : Vec F S25x256x2560 .bf16) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare y
    ∗ owns (c : Thread nD τ) arg6 fullShare codes ∗ owns (c : Thread nD τ) arg7 fullShare scales
    ∗ owns (c : Thread nD τ) arg8 fullShare xd ∗ owns (c : Thread nD τ) arg9 fullShare wd)

set_option maxHeartbeats 1608000 in
/-- The body at the first point of the first row block: it quantises the activations and dequantises a slab of the weights. -/
theorem runA (c : Dev nD) (i : grid0.Coords) (arg2 : Memref sig .tc .vmem S512x2560 .bf16) (harg2 : arg2.IsWhole) (arg3 : Memref sig .tc .vmem S256x2560 .fp8e4m3) (harg3 : arg3.IsWhole) (arg4 : Memref sig .tc .vmem S256x20 .f32) (harg4 : arg4.IsWhole) (arg5 : Memref sig .tc .vmem S512x256 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S512x2560 .bf16) (harg8 : arg8.IsWhole) (arg9 : Memref sig .tc .vmem S25x256x2560 .bf16) (harg9 : arg9.IsWhole) (hc0 : cond0_0 i) (hc1 : cond0_1 i)
    (x0 : Vec F S512x2560 .bf16) (x1 : Vec F S256x2560 .fp8e4m3) (x2 : Vec F S256x20 .f32) (d5 : Vec F S512x256 .bf16)
    (d6 : Vec F S512x2560 .fp8e4m3) (d7 : Vec F S512x20 .f32) (d8 : Vec F S512x2560 .bf16) (d9 : Vec F S25x256x2560 .bf16)
    (E : Set ℕ) (K : PUnit → sProp 𝕄) :
    iprop(held c arg2 arg3 arg4 arg5 arg6 arg7 arg8 arg9 x0 x1 x2 d5 d6 d7 d8 d9
        ∗ (held c arg2 arg3 arg4 arg5 arg6 arg7 arg8 arg9 x0 x1 x2 (k0_pay4 (deqTile x0) (wdSlab x1 x2)) (codesTile x0) (scaleTile x0) (deqTile x0) (updSlab d9 (slabNo i) (wdSlab x1 x2)) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩⟩, Hk⟩
    subst hf0 hf1 hf2 hf3 hf4 hf5 hs0 hs1
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      refine (tile_read _ _ _ _).trans (congrArg₂ k0_pay4 ?_ ?_)
      · change View.ld (arg8.view.read (Elt F) (arg8.view.writes (Elt F) arg8.view.junk _)) _ = _
        refine (congrArg (fun d => View.ld d _) (grpTile_read (F := F) (e := .bf16) (fun v => k0_pay10 (k0_pay8 v) (k0_pay9 v)) _ _ _ ?_)).trans (ld_whole _ _)
        repeat first | exact .nil | refine .cons _ (by decide) _ _ _ _ rfl (by exact rfl) ?_
      · change View.ld (arg9.view.read (Elt F) (arg9.view.writes (Elt F) arg9.view.junk _)) _ = _
        refine (congrArg (fun d => View.ld d _) (slab_read (slabNo i) _ _ _ _ ?_)).trans ((ld_slab _ _ _ (off_eq i 0) _).trans (slab_updSlab _ _ _))
        repeat first | exact .nil | refine .cons _ (by decide) _ _ _ _ (off_eq i _) (by exact rfl) ?_
    isplitl [H4]
    · iexists _; isplitr; swap; · iexact H4
      ipureintro
      refine grpTile_read (F := F) (e := .fp8e4m3) k0_pay9 _ _ _ ?_
      repeat first | exact .nil | refine .cons _ (by decide) _ _ _ _ rfl (by exact rfl) ?_
    isplitl [H5]
    · iexists _; isplitr; swap; · iexact H5
      ipureintro
      refine scaleTile_read _ _ _ ?_
      repeat first | exact .nil | refine .cons _ (by decide) _ _ _ _ rfl (by exact rfl) ?_
    isplitl [HS0]
    · iexists _; isplitr; swap; · iexact HS0
      ipureintro
      refine grpTile_read (F := F) (e := .bf16) (fun v => k0_pay10 (k0_pay8 v) (k0_pay9 v)) _ _ _ ?_
      repeat first | exact .nil | refine .cons _ (by decide) _ _ _ _ rfl (by exact rfl) ?_
    iexists _; isplitr; swap; · iexact HS1
    ipureintro
    refine slab_read (slabNo i) _ _ _ _ ?_
    repeat first | exact .nil | refine .cons _ (by decide) _ _ _ _ (off_eq i _) (by exact rfl) ?_

end Cert.KernelIdeal.Gen

end
-- ==== Proof.RunB.lean ====
/- The kernel body run at the other points of the first row block. -/
module

public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1608000 in
/-- The body at the other points of the first row block: it dequantises a slab of the weights. -/
theorem runB (c : Dev nD) (i : grid0.Coords) (arg2 : Memref sig .tc .vmem S512x2560 .bf16) (harg2 : arg2.IsWhole) (arg3 : Memref sig .tc .vmem S256x2560 .fp8e4m3) (harg3 : arg3.IsWhole) (arg4 : Memref sig .tc .vmem S256x20 .f32) (harg4 : arg4.IsWhole) (arg5 : Memref sig .tc .vmem S512x256 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S512x2560 .bf16) (harg8 : arg8.IsWhole) (arg9 : Memref sig .tc .vmem S25x256x2560 .bf16) (harg9 : arg9.IsWhole) (hc0 : ¬cond0_0 i) (hc1 : cond0_1 i)
    (x0 : Vec F S512x2560 .bf16) (x1 : Vec F S256x2560 .fp8e4m3) (x2 : Vec F S256x20 .f32) (d5 : Vec F S512x256 .bf16)
    (d6 : Vec F S512x2560 .fp8e4m3) (d7 : Vec F S512x20 .f32) (d8 : Vec F S512x2560 .bf16) (d9 : Vec F S25x256x2560 .bf16)
    (E : Set ℕ) (K : PUnit → sProp 𝕄) :
    iprop(held c arg2 arg3 arg4 arg5 arg6 arg7 arg8 arg9 x0 x1 x2 d5 d6 d7 d8 d9
        ∗ (held c arg2 arg3 arg4 arg5 arg6 arg7 arg8 arg9 x0 x1 x2 (k0_pay4 d8 (wdSlab x1 x2)) d6 d7 d8 (updSlab d9 (slabNo i) (wdSlab x1 x2)) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩⟩, Hk⟩
    subst hf0 hf1 hf2 hf3 hf4 hf5 hs0 hs1
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      refine (tile_read _ _ _ _).trans (congrArg₂ k0_pay4 ?_ ?_)
      · exact (Eq.refl _).trans (ld_whole _ _)
      · change View.ld (arg9.view.read (Elt F) (arg9.view.writes (Elt F) arg9.view.junk _)) _ = _
        refine (congrArg (fun d => View.ld d _) (slab_read (slabNo i) _ _ _ _ ?_)).trans ((ld_slab _ _ _ (off_eq i 0) _).trans (slab_updSlab _ _ _))
        repeat first | exact .nil | refine .cons _ (by decide) _ _ _ _ (off_eq i _) (by exact rfl) ?_
    isplitl [H4]
    · iexists _; isplitr; swap; · iexact H4
      ipureintro
      rfl
    isplitl [H5]
    · iexists _; isplitr; swap; · iexact H5
      ipureintro
      rfl
    isplitl [HS0]
    · iexists _; isplitr; swap; · iexact HS0
      ipureintro
      rfl
    iexists _; isplitr; swap; · iexact HS1
    ipureintro
    refine slab_read (slabNo i) _ _ _ _ ?_
    repeat first | exact .nil | refine .cons _ (by decide) _ _ _ _ (off_eq i _) (by exact rfl) ?_

end Cert.KernelIdeal.Gen

end
-- ==== Proof.RunC.lean ====
/- The kernel body run at the first point of a later row block. -/
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1608000 in
/-- The body at the first point of a later row block: it quantises the activations. -/
theorem runC (c : Dev nD) (i : grid0.Coords) (arg2 : Memref sig .tc .vmem S512x2560 .bf16) (harg2 : arg2.IsWhole) (arg3 : Memref sig .tc .vmem S256x2560 .fp8e4m3) (harg3 : arg3.IsWhole) (arg4 : Memref sig .tc .vmem S256x20 .f32) (harg4 : arg4.IsWhole) (arg5 : Memref sig .tc .vmem S512x256 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S512x2560 .bf16) (harg8 : arg8.IsWhole) (arg9 : Memref sig .tc .vmem S25x256x2560 .bf16) (harg9 : arg9.IsWhole) (hc0 : cond0_0 i) (hc1 : ¬cond0_1 i)
    (x0 : Vec F S512x2560 .bf16) (x1 : Vec F S256x2560 .fp8e4m3) (x2 : Vec F S256x20 .f32) (d5 : Vec F S512x256 .bf16)
    (d6 : Vec F S512x2560 .fp8e4m3) (d7 : Vec F S512x20 .f32) (d8 : Vec F S512x2560 .bf16) (d9 : Vec F S25x256x2560 .bf16)
    (E : Set ℕ) (K : PUnit → sProp 𝕄) :
    iprop(held c arg2 arg3 arg4 arg5 arg6 arg7 arg8 arg9 x0 x1 x2 d5 d6 d7 d8 d9
        ∗ (held c arg2 arg3 arg4 arg5 arg6 arg7 arg8 arg9 x0 x1 x2 (k0_pay4 (deqTile x0) (slab d9 (slabNo i))) (codesTile x0) (scaleTile x0) (deqTile x0) d9 -∗ K ⟨⟩))
      ⊢ wp frame (wpE (defs₀ (F := F)) Variants.none c none) E (cc0__body i arg2 harg2 arg3 harg3 arg4 harg4 arg5 harg5 arg6 harg6 arg7 harg7 arg8 harg8 arg9 harg9) K := by
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩⟩, Hk⟩
    subst hf0 hf1 hf2 hf3 hf4 hf5 hs0 hs1
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      refine (tile_read _ _ _ _).trans (congrArg₂ k0_pay4 ?_ ?_)
      · change View.ld (arg8.view.read (Elt F) (arg8.view.writes (Elt F) arg8.view.junk _)) _ = _
        refine (congrArg (fun d => View.ld d _) (grpTile_read (F := F) (e := .bf16) (fun v => k0_pay10 (k0_pay8 v) (k0_pay9 v)) _ _ _ ?_)).trans (ld_whole _ _)
        repeat first | exact .nil | refine .cons _ (by decide) _ _ _ _ rfl (by exact rfl) ?_
      · exact (Eq.refl _).trans (ld_slab _ _ _ (off_eq i 0) _)
    isplitl [H4]
    · iexists _; isplitr; swap; · iexact H4
      ipureintro
      refine grpTile_read (F := F) (e := .fp8e4m3) k0_pay9 _ _ _ ?_
      repeat first | exact .nil | refine .cons _ (by decide) _ _ _ _ rfl (by exact rfl) ?_
    isplitl [H5]
    · iexists _; isplitr; swap; · iexact H5
      ipureintro
      refine scaleTile_read _ _ _ ?_
      repeat first | exact .nil | refine .cons _ (by decide) _ _ _ _ rfl (by exact rfl) ?_
    isplitl [HS0]
    · iexists _; isplitr; swap; · iexact HS0
      ipureintro
      refine grpTile_read (F := F) (e := .bf16) (fun v => k0_pay10 (k0_pay8 v) (k0_pay9 v)) _ _ _ ?_
      repeat first | exact .nil | refine .cons _ (by decide) _ _ _ _ rfl (by exact rfl) ?_
    iexists _; isplitr; swap; · iexact HS1
    ipureintro
    rfl

end Cert.KernelIdeal.Gen

end
-- ==== Proof.RunD.lean ====
/- The kernel body run at every other point. -/
module

public import proofs.«01_k».proof.Proof.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1608000 in
/-- The body at every other point: the product alone. -/
theorem runD (c : Dev nD) (i : grid0.Coords) (arg2 : Memref sig .tc .vmem S512x2560 .bf16) (harg2 : arg2.IsWhole) (arg3 : Memref sig .tc .vmem S256x2560 .fp8e4m3) (harg3 : arg3.IsWhole) (arg4 : Memref sig .tc .vmem S256x20 .f32) (harg4 : arg4.IsWhole) (arg5 : Memref sig .tc .vmem S512x256 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S512x2560 .bf16) (harg8 : arg8.IsWhole) (arg9 : Memref sig .tc .vmem S25x256x2560 .bf16) (harg9 : arg9.IsWhole) (hc0 : ¬cond0_0 i) (hc1 : ¬cond0_1 i)
    (x0 : Vec F S512x2560 .bf16) (x1 : Vec F S256x2560 .fp8e4m3) (x2 : Vec F S256x20 .f32) (d5 : Vec F S512x256 .bf16)
    (d6 : Vec F S512x2560 .fp8e4m3) (d7 : Vec F S512x20 .f32) (d8 : Vec F S512x2560 .bf16) (d9 : Vec F S25x256x2560 .bf16)
    (E : Set ℕ) (K : PUnit → sProp 𝕄) :
    iprop(held c arg2 arg3 arg4 arg5 arg6 arg7 arg8 arg9 x0 x1 x2 d5 d6 d7 d8 d9
        ∗ (held c arg2 arg3 arg4 arg5 arg6 arg7 arg8 arg9 x0 x1 x2 (k0_pay4 d8 (slab d9 (slabNo i))) d6 d7 d8 d9 -∗ K ⟨⟩))
      ⊢ wp frame (wpE (defs₀ (F := F)) Variants.none c none) E (cc0__body i arg2 harg2 arg3 harg3 arg4 harg4 arg5 harg5 arg6 harg6 arg7 harg7 arg8 harg8 arg9 harg9) K := by
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩⟩, Hk⟩
    subst hf0 hf1 hf2 hf3 hf4 hf5 hs0 hs1
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      refine (tile_read _ _ _ _).trans (congrArg₂ k0_pay4 ?_ ?_)
      · exact (Eq.refl _).trans (ld_whole _ _)
      · exact (Eq.refl _).trans (ld_slab _ _ _ (off_eq i 0) _)
    isplitl [H4]
    · iexists _; isplitr; swap; · iexact H4
      ipureintro
      rfl
    isplitl [H5]
    · iexists _; isplitr; swap; · iexact H5
      ipureintro
      rfl
    isplitl [HS0]
    · iexists _; isplitr; swap; · iexact HS0
      ipureintro
      rfl
    iexists _; isplitr; swap; · iexact HS1
    ipureintro
    rfl

end Cert.KernelIdeal.Gen

end
-- ==== Proof.Blocks.lean ====
/- The points of the grid as row and column blocks, and the blocks of the arrays that the windows hand the body. -/
module

public import proofs.«01_k».proof.Proof.RunD
public import Idealize.ShloMosaic.Lib.Claim
public import Idealize.ShloMosaic.Lib.Pipeline.ValueKit.Point

@[expose] public section

set_option maxRecDepth 16384

noncomputable section

namespace Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The row block of point number `n`: the grid's outer coordinate. -/
def rowOf (n : ℕ) : Fin 12 := ⟨n / 25 % 12, Nat.mod_lt _ (by decide)⟩
/-- The column block of point number `n`: the grid's inner coordinate. -/
def colOf (n : ℕ) : Fin 25 := ⟨n % 25, Nat.mod_lt _ (by decide)⟩

/-- Row block `b` of the activations, -/
def xRow (X : Vec F S6144x2560 .bf16) (b : Fin 12) : Vec F S512x2560 .bf16 := fun y =>
  X (ValueIdx.ix2 ⟨512 * b.val + (y 0).val, by have := b.isLt; have h : (y 0).val < 512 := (y 0).isLt; omega⟩ (y 1))
/-- block `n` of the weights' codes, -/
def wTile (W : Vec F S6400x2560 .fp8e4m3) (n : Fin 25) : Vec F S256x2560 .fp8e4m3 := fun y =>
  W (ValueIdx.ix2 ⟨256 * n.val + (y 0).val, by have := n.isLt; have h : (y 0).val < 256 := (y 0).isLt; omega⟩ (y 1))
/-- and block `n` of the weights' scales. -/
def sTile (S : Vec F S6400x20 .f32) (n : Fin 25) : Vec F S256x20 .f32 := fun y =>
  S (ValueIdx.ix2 ⟨256 * n.val + (y 0).val, by have := n.isLt; have h : (y 0).val < 256 := (y 0).isLt; omega⟩ (y 1))

/-! ## The index maps, at every point -/

theorem index0_0 : ∀ t : Fin cfg0.N, win0_0.index t = ![(rowOf t.val).val, 0] := by decide +kernel
theorem index0_1 : ∀ t : Fin cfg0.N, win0_1.index t = ![min t.val 24, 0] := by decide +kernel
theorem index0_2 : ∀ t : Fin cfg0.N, win0_2.index t = ![min t.val 24, 0] := by decide +kernel
theorem index0_3 : ∀ t : Fin cfg0.N, win0_3.index t = ![(rowOf t.val).val, (colOf t.val).val] := by decide +kernel
theorem index0_4 : ∀ t : Fin cfg0.N, win0_4.index t = ![(rowOf t.val).val, 0] := by decide +kernel
theorem index0_5 : ∀ t : Fin cfg0.N, win0_5.index t = ![(rowOf t.val).val, 0] := by decide +kernel

/-! ## The input blocks the body finds -/

/-- The activations' block at a point is its row block. -/
theorem iblk0_eq (c : Dev nD) (t : Fin cfg0.N) : iblk m c 0 t = xRow (V m c main_v0) (rowOf t.val) := by
  funext y
  show iblk m c 0 t y = V m c main_v0 (ValueIdx.ix2 _ _)
  blk_ext [iblk, index0_0]

/-- In the first row of the grid the weights' block is the point's own, -/
theorem iblk1_eq (c : Dev nD) (t : Fin cfg0.N) (h : t.val < 25) : iblk m c 1 t = wTile (V m c main_arg1) (colOf t.val) := by
  have e : min t.val 24 = (colOf t.val).val := by simp only [colOf]; omega
  funext y
  show iblk m c 1 t y = V m c main_arg1 (ValueIdx.ix2 _ _)
  blk_ext [iblk, index0_1, e]
/-- and so is their scales'. -/
theorem iblk2_eq (c : Dev nD) (t : Fin cfg0.N) (h : t.val < 25) : iblk m c 2 t = sTile (V m c main_arg2) (colOf t.val) := by
  have e : min t.val 24 = (colOf t.val).val := by simp only [colOf]; omega
  funext y
  show iblk m c 2 t y = V m c main_arg2 (ValueIdx.ix2 _ _)
  blk_ext [iblk, index0_2, e]

/-- The slab the body reads or writes at a point is its column's. -/
theorem slabNo_coords (t : Fin cfg0.N) : slabNo (grid0.coords t) = colOf t.val := by
  have e1 : (grid0.coords t 1).val = t.val / 1 % 25 := Pipeline.Grid.coords_val t 1 (by decide) rfl
  apply Fin.ext
  simp only [slabNo, colOf, e1]
  omega

end Cert.KernelIdeal.Gen

end
-- ==== Proof.Data.lean ====
/- The pipeline's proof data: what each window's buffer and the two scratch buffers hold point by point. -/
module

public import proofs.«01_k».proof.Proof.Blocks
public import Idealize.ShloMosaic.Lib.Pipeline.TableIdle

@[expose] public section

set_option maxRecDepth 16384

noncomputable section

namespace Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the kernel computes, block by block -/

/-- The dequantised slab of weights of column block `n`, -/
def wdOf (W : Vec F S6400x2560 .fp8e4m3) (S : Vec F S6400x20 .f32) (n : Fin 25) : Vec F S1x256x2560 .bf16 :=
  wdSlab (wTile W n) (sTile S n)
/-- and the result tile of row block `b` and column block `n`. -/
def yTile (X : Vec F S6144x2560 .bf16) (W : Vec F S6400x2560 .fp8e4m3) (S : Vec F S6400x20 .f32) (b : Fin 12) (n : Fin 25) :
    Vec F S512x256 .bf16 := k0_pay4 (deqTile (xRow X b)) (wdOf W S n)

/-- What the two scratch buffers hold before point `p`: inside a row of the grid, the row block dequantised; and every slab of
    the weights written so far, dequantised. -/
def Held (X : Vec F S6144x2560 .bf16) (W : Vec F S6400x2560 .fp8e4m3) (S : Vec F S6400x20 .f32) (p : ℕ)
    (d0 : Vec F S512x2560 .bf16) (d1 : Vec F S25x256x2560 .bf16) : Prop :=
  (p % 25 ≠ 0 → d0 = deqTile (xRow X (rowOf p))) ∧ ∀ k : Fin 25, k.val < p → slab d1 k = wdOf W S k

section Held
variable {X : Vec F S6144x2560 .bf16} {W : Vec F S6400x2560 .fp8e4m3} {S : Vec F S6400x20 .f32} {p : ℕ}
  {d0 : Vec F S512x2560 .bf16} {d1 : Vec F S25x256x2560 .bf16}

theorem rowOf_succ (h : (p + 1) % 25 ≠ 0) : rowOf (p + 1) = rowOf p := by
  apply Fin.ext; simp only [rowOf]; omega

/-- The row block is kept to the next point of the row. -/
theorem Held.row_succ (h : d0 = deqTile (xRow X (rowOf p))) : (p + 1) % 25 ≠ 0 → d0 = deqTile (xRow X (rowOf (p + 1))) :=
  fun hp => by rw [rowOf_succ hp]; exact h

/-- A point of the first row adds its slab. -/
theorem Held.slabs_write (h : ∀ k : Fin 25, k.val < p → slab d1 k = wdOf W S k) (hp : p < 25) :
    ∀ k : Fin 25, k.val < p + 1 → slab (updSlab d1 (colOf p) (wdOf W S (colOf p))) k = wdOf W S k := by
  intro k hk
  by_cases e : k = colOf p
  · subst e; exact slab_updSlab _ _ _
  · have : k.val ≠ p := fun hkp => e (Fin.ext (by simp only [colOf]; omega))
    rw [slab_updSlab_of_ne _ _ _ _ e]
    exact h k (by omega)

/-- After the first row every slab is there already. -/
theorem Held.slabs_keep (h : ∀ k : Fin 25, k.val < p → slab d1 k = wdOf W S k) (hp : ¬p < 25) :
    ∀ k : Fin 25, k.val < p + 1 → slab d1 k = wdOf W S k :=
  fun k _ => h k (by have := k.isLt; omega)

theorem Held.slab_col (h : ∀ k : Fin 25, k.val < p → slab d1 k = wdOf W S k) (hp : ¬p < 25) :
    slab d1 (colOf p) = wdOf W S (colOf p) :=
  h _ (by have := (colOf p).isLt; omega)
end Held

/-! ## The pipeline's proof data -/

/-- The proof data of the one pipeline on core `c`: the arrays as the region finds them; after the body at a point each
    input's buffer at its block, the result tile, and the row block's codes and scales; between the points the scratch as
    `Held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yTile (V m c main_v0) (V m c main_arg1) (V m c main_arg2) (rowOf t.val) (colOf t.val)
    | ⟨4, _⟩ => codesTile (xRow (V m c main_v0) (rowOf t.val))
    | ⟨5, _⟩ => scaleTile (xRow (V m c main_v0) (rowOf t.val))
  Φ p := iprop((∃ d0, ∃ d1, owns (c : Thread nD τ) scM0_0 fullShare d0 ∗ owns (c : Thread nD τ) scM0_1 fullShare d1
      ∗ ⌜Held (V m c main_v0) (V m c main_arg1) (V m c main_arg2) p.val d0 d1⌝) ∗ (∃ r, prngReg c r))
  q _ := fullShare
  owed _ := 0

/-- The invariant between the points, spelt out. -/
theorem Phi_eq (c : Dev nD) (p : Fin (cfg0.N + 1)) : (dats m 0 c).Φ p
    = iprop((∃ d0, ∃ d1, owns (c : Thread nD τ) scM0_0 fullShare d0 ∗ owns (c : Thread nD τ) scM0_1 fullShare d1
      ∗ ⌜Held (V m c main_v0) (V m c main_arg1) (V m c main_arg2) p.val d0 d1⌝) ∗ (∃ r, prngReg c r)) := by
  dsimp only [dats]

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = yTile (V m c main_v0) (V m c main_arg1) (V m c main_arg2) (rowOf t.val) (colOf t.val) := by dsimp only [dats]
theorem after0_4 (c : Dev nD) (t : Fin cfg0.N) : (dats m 0 c).after 4 t = codesTile (xRow (V m c main_v0) (rowOf t.val)) := by
  dsimp only [dats]
theorem after0_5 (c : Dev nD) (t : Fin cfg0.N) : (dats m 0 c).after 5 t = scaleTile (xRow (V m c main_v0) (rowOf t.val)) := by
  dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The codes' and scales' windows through the points that store nothing into them -/

theorem idle0_4 (t : Fin cfg0.N) : cfg0.idle 4 (cfg0.grid.coords t) = !decide (t.val % 25 = 0) := by
  show (!(k0_cond1 (grid0.coords t) == 1#1)) = _
  have h := hcond0_0 t
  by_cases e : t.val % 25 = 0
  · rw [decide_eq_true e, (show k0_cond1 (grid0.coords t) = 1#1 from h.mpr e)]; rfl
  · rw [decide_eq_false e, beq_eq_false_iff_ne.mpr (fun hh => e (h.mp hh))]
theorem idle0_5 (t : Fin cfg0.N) : cfg0.idle 5 (cfg0.grid.coords t) = !decide (t.val % 25 = 0) := idle0_4 t

theorem flush4_eq (t : Fin cfg0.N) : (cfg0.win 4).flush t = decide (t.val % 25 = 24) := by
  rw [Bool.eq_iff_iff, flush0_4, decide_eq_true_iff]
theorem flush5_eq (t : Fin cfg0.N) : (cfg0.win 5).flush t = decide (t.val % 25 = 24) := by
  rw [Bool.eq_iff_iff, flush0_5, decide_eq_true_iff]

theorem fresh_step (n : ℕ) : decide ((n + 1) % 25 = 0) = (decide (n % 25 = 24) || ((!decide (n % 25 = 0)) && decide (n % 25 = 0))) := by
  rw [Bool.eq_iff_iff]; simp; omega

/-- The buffer is fresh at the head of each row of the grid, and nowhere else. -/
theorem fresh0_4 (t : Fin cfg0.N) : cfg0.fresh 4 t.val = decide (t.val % 25 = 0) :=
  cfg0.fresh_tab 4 (fun n => decide (n % 25 = 0)) rfl (fun t => by rw [flush4_eq, idle0_4]; exact fresh_step t.val) _ t.isLt.le
theorem fresh0_5 (t : Fin cfg0.N) : cfg0.fresh 5 t.val = decide (t.val % 25 = 0) :=
  cfg0.fresh_tab 5 (fun n => decide (n % 25 = 0)) rfl (fun t => by rw [flush5_eq, idle0_5]; exact fresh_step t.val) _ t.isLt.le

theorem rowOf_pred {n : ℕ} (h : ¬n % 25 = 0) : rowOf (n - 1) = rowOf n := by
  apply Fin.ext; simp only [rowOf]; omega

theorem before0_4 (c : Dev nD) (t : Fin cfg0.N) (h : ¬t.val % 25 = 0) (d) : (dats m 0 c).before 4 t d = (dats m 0 c).after 4 t := by
  rw [(dats m 0 c).before_out_traj 4 rfl (fun _ _ => rfl) (fun t ht hi _ => ?_) t.val t rfl d, fresh0_4, decide_eq_false h,
    if_neg Bool.false_ne_true, after0_4, after0_4]
  · rw [rowOf_pred h]
  · rw [idle0_4, Bool.not_eq_true', decide_eq_false_iff_not] at hi
    rw [after0_4, after0_4]; dsimp only; rw [rowOf_pred hi]
theorem before0_5 (c : Dev nD) (t : Fin cfg0.N) (h : ¬t.val % 25 = 0) (d) : (dats m 0 c).before 5 t d = (dats m 0 c).after 5 t := by
  rw [(dats m 0 c).before_out_traj 5 rfl (fun _ _ => rfl) (fun t ht hi _ => ?_) t.val t rfl d, fresh0_5, decide_eq_false h,
    if_neg Bool.false_ne_true, after0_5, after0_5]
  · rw [rowOf_pred h]
  · rw [idle0_5, Bool.not_eq_true', decide_eq_false_iff_not] at hi
    rw [after0_5, after0_5]; dsimp only; rw [rowOf_pred hi]

/-- At every point a buffer left at what `after` says is what the obligation asks for. -/
theorem leaves0_4 (c : Dev nD) (t : Fin cfg0.N) :
    owns (c : Thread nD τ) (ms0_4 t) fullShare ((dats m 0 c).after 4 t) ⊢ (dats m 0 c).leavesExact 4 t := by
  by_cases h : t.val % 25 = 0
  · unfold Dat.leavesExact; rw [idle0_4, decide_eq_true h]; exact .rfl
  · by_cases hf : t.val % 25 = 24
    · unfold Dat.leavesExact; rw [idle0_4, decide_eq_false h, flush4_eq, decide_eq_true hf]; exact .rfl
    · rw [(dats m 0 c).leavesExact_idle 4 t (by rw [idle0_4, decide_eq_false h]; rfl) (by rw [flush4_eq, decide_eq_false hf])]
      iintro H
      iexists ((dats m 0 c).after 4 t)
      rw [before0_4 m c t h]; iexact H
theorem leaves0_5 (c : Dev nD) (t : Fin cfg0.N) :
    owns (c : Thread nD τ) (ms0_5 t) fullShare ((dats m 0 c).after 5 t) ⊢ (dats m 0 c).leavesExact 5 t := by
  by_cases h : t.val % 25 = 0
  · unfold Dat.leavesExact; rw [idle0_5, decide_eq_true h]; exact .rfl
  · by_cases hf : t.val % 25 = 24
    · unfold Dat.leavesExact; rw [idle0_5, decide_eq_false h, flush5_eq, decide_eq_true hf]; exact .rfl
    · rw [(dats m 0 c).leavesExact_idle 5 t (by rw [idle0_5, decide_eq_false h]; rfl) (by rw [flush5_eq, decide_eq_false hf])]
      iintro H
      iexists ((dats m 0 c).after 5 t)
      rw [before0_5 m c t h]; iexact H

end Cert.KernelIdeal.Gen

end
-- ==== Proof.Body.lean ====
/- The body at every point of the grid, the launch, and the kernel's run with its results named. -/
module

public import proofs.«01_k».proof.Proof.Data
public import Idealize.ShloMosaic.Lib.Claim

@[expose] public section

set_option maxRecDepth 16384

noncomputable section

namespace Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare ((dats m 0 c).after 3 t) := by
  unfold Dat.leavesExact; rw [(fun _ => rfl : ∀ t : Fin cfg0.N, cfg0.idle 3 (grid0.coords t) = false) t]

/-- What every case hands back: the eight buffers at contents that `Held` and `after` name. -/
theorem give_back (c : Dev nD) (t : Fin cfg0.N) (d8 : Vec F S512x2560 .bf16) (d9 : Vec F S25x256x2560 .bf16)
    (y : Vec F S512x256 .bf16) (codes : Vec F S512x2560 .fp8e4m3) (scales : Vec F S512x20 .f32)
    (hH : Held (V m c main_v0) (V m c main_arg1) (V m c main_arg2) (t.val + 1) d8 d9)
    (hy : y = (dats m 0 c).after 3 t) (hcodes : codes = (dats m 0 c).after 4 t) (hscales : scales = (dats m 0 c).after 5 t) :
    iprop((∃ r, prngReg c r) ∗ (dats m 0 c).owesAt () t.castSucc
      ∗ held c (ms0_0 t) (ms0_1 t) (ms0_2 t) (ms0_3 t) (ms0_4 t) (ms0_5 t) scM0_0 scM0_1
          (iblk m c 0 t) (iblk m c 1 t) (iblk m c 2 t) y codes scales d8 d9)
      ⊢ bodyPost m c t := by
  subst hy hcodes hscales
  unfold bodyPost held
  rw [Phi_eq, leaves0_0, leaves0_1, leaves0_2, leaves0_3, show (dats m 0 c).owesAt () t.succ = (dats m 0 c).owesAt () t.castSucc from rfl]
  iintro ⟨Hg, Ho, H0, H1, H2, H3, H4, H5, HS0, HS1⟩
  isplitl [HS0 HS1 Hg]
  · isplitl [HS0 HS1]
    · iexists d8; iexists d9
      isplitl [HS0]; · iexact HS0
      isplitl [HS1]; · iexact HS1
      ipureintro; exact hH
    iexact Hg
  isplitl [Ho]; · iexact Ho
  isplitl [H0]; · iexact H0
  isplitl [H1]; · iexact H1
  isplitl [H2]; · iexact H2
  isplitl [H3]; · iexact H3
  isplitl [H4]
  · iapply (leaves0_4 m c t); iexact H4
  iapply (leaves0_5 m c t); iexact H5

/-- A case's run, framed: from the buffers as the point finds them to the obligation's post. -/
theorem of_run (c : Dev nD) (t : Fin cfg0.N) (d5 : Vec F S512x256 .bf16) (d6 : Vec F S512x2560 .fp8e4m3) (d7 : Vec F S512x20 .f32)
    (d8 d8' : Vec F S512x2560 .bf16) (d9 d9' : Vec F S25x256x2560 .bf16)
    (y : Vec F S512x256 .bf16) (codes : Vec F S512x2560 .fp8e4m3) (scales : Vec F S512x20 .f32)
    (hrun : ∀ K : PUnit → sProp 𝕄, iprop(held c (ms0_0 t) (ms0_1 t) (ms0_2 t) (ms0_3 t) (ms0_4 t) (ms0_5 t) scM0_0 scM0_1
          (iblk m c 0 t) (iblk m c 1 t) (iblk m c 2 t) d5 d6 d7 d8 d9
        ∗ (held c (ms0_0 t) (ms0_1 t) (ms0_2 t) (ms0_3 t) (ms0_4 t) (ms0_5 t) scM0_0 scM0_1
          (iblk m c 0 t) (iblk m c 1 t) (iblk m c 2 t) y codes scales d8' d9' -∗ K ⟨⟩))
      ⊢ wp frame (wpE (defs₀ (F := F)) Variants.none c none) Set.univ (bodyAt0 t) K)
    (hH : Held (V m c main_v0) (V m c main_arg1) (V m c main_arg2) (t.val + 1) d8' d9')
    (hy : y = (dats m 0 c).after 3 t) (hcodes : codes = (dats m 0 c).after 4 t) (hscales : scales = (dats m 0 c).after 5 t) :
    iprop((∃ r, prngReg c r) ∗ (dats m 0 c).owesAt () t.castSucc
      ∗ held c (ms0_0 t) (ms0_1 t) (ms0_2 t) (ms0_3 t) (ms0_4 t) (ms0_5 t) scM0_0 scM0_1
          (iblk m c 0 t) (iblk m c 1 t) (iblk m c 2 t) d5 d6 d7 d8 d9)
      ⊢ wp frame (wpE (defs₀ (F := F)) Variants.none c none) Set.univ (bodyAt0 t) (fun _ => bodyPost m c t) := by
  iintro ⟨Hg, Ho, H⟩
  iapply (hrun _)
  isplitl [H]; · iexact H
  iintro H
  iapply (give_back m c t d8' d9' y codes scales hH hy hcodes hscales)
  isplitl [Hg]; · iexact Hg
  isplitl [Ho]; · iexact Ho
  iexact H

/-- The body from the buffers as a point finds them, whichever case the point is in. -/
theorem sound_cases (c : Dev nD) (t : Fin cfg0.N) (d3) (d4) (d5)
    (d8 : Vec F S512x2560 .bf16) (d9 : Vec F S25x256x2560 .bf16)
    (hH : Held (V m c main_v0) (V m c main_arg1) (V m c main_arg2) t.val d8 d9) :
    iprop((∃ r, prngReg c r) ∗ (dats m 0 c).owesAt () t.castSucc
      ∗ held c (ms0_0 t) (ms0_1 t) (ms0_2 t) (ms0_3 t) (ms0_4 t) (ms0_5 t) scM0_0 scM0_1
          (iblk m c 0 t) (iblk m c 1 t) (iblk m c 2 t) ((dats m 0 c).before 3 t d3) ((dats m 0 c).before 4 t d4)
          ((dats m 0 c).before 5 t d5) d8 d9)
      ⊢ wp frame (wpE (defs₀ (F := F)) Variants.none c none) Set.univ (bodyAt0 t) (fun _ => bodyPost m c t) := by
  have e0 := iblk0_eq m c t
  have en := slabNo_coords t
  by_cases h0 : t.val % 25 = 0
  · by_cases h1 : t.val < 25
    · refine of_run m c t _ _ _ _ _ _ _ _ _ _ (fun K => runA c (grid0.coords t) _ _ _ _ _ _ _ _ _ _ _ _ _ _ _ _
        ((hcond0_0 t).mpr h0) ((hcond0_1 t).mpr h1) _ _ _ _ _ _ _ _ _ K) ?_ ?_ ?_ ?_
      · rw [en, e0, iblk1_eq m c t h1, iblk2_eq m c t h1]; exact ⟨Held.row_succ rfl, Held.slabs_write hH.2 h1⟩
      · rw [e0, iblk1_eq m c t h1, iblk2_eq m c t h1, after0_3]; rfl
      · rw [e0, after0_4]
      · rw [e0, after0_5]
    · refine of_run m c t _ _ _ _ _ _ _ _ _ _ (fun K => runC c (grid0.coords t) _ _ _ _ _ _ _ _ _ _ _ _ _ _ _ _
        ((hcond0_0 t).mpr h0) (fun h => h1 ((hcond0_1 t).mp h)) _ _ _ _ _ _ _ _ _ K) ?_ ?_ ?_ ?_
      · rw [e0]; exact ⟨Held.row_succ rfl, Held.slabs_keep hH.2 h1⟩
      · rw [en, e0, Held.slab_col hH.2 h1, after0_3]; rfl
      · rw [e0, after0_4]
      · rw [e0, after0_5]
  · have hd := hH.1 h0
    by_cases h1 : t.val < 25
    · refine of_run m c t _ _ _ _ _ _ _ _ _ _ (fun K => runB c (grid0.coords t) _ _ _ _ _ _ _ _ _ _ _ _ _ _ _ _
        (fun h => h0 ((hcond0_0 t).mp h)) ((hcond0_1 t).mpr h1) _ _ _ _ _ _ _ _ _ K) ?_ ?_ ?_ ?_
      · rw [en, iblk1_eq m c t h1, iblk2_eq m c t h1]; exact ⟨Held.row_succ hd, Held.slabs_write hH.2 h1⟩
      · rw [hd, iblk1_eq m c t h1, iblk2_eq m c t h1, after0_3]; rfl
      · exact before0_4 m c t h0 _
      · exact before0_5 m c t h0 _
    · refine of_run m c t _ _ _ _ _ _ _ _ _ _ (fun K => runD c (grid0.coords t) _ _ _ _ _ _ _ _ _ _ _ _ _ _ _ _
        (fun h => h0 ((hcond0_0 t).mp h)) (fun h => h1 ((hcond0_1 t).mp h)) _ _ _ _ _ _ _ _ _ K) ?_ ?_ ?_ ?_
      · exact ⟨Held.row_succ hd, Held.slabs_keep hH.2 h1⟩
      · rw [en, hd, Held.slab_col hH.2 h1, after0_3]; rfl
      · exact before0_4 m c t h0 _
      · exact before0_5 m c t h0 _

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [Phi_eq]
  simp only [before0_0, before0_1, before0_2]
  iintro ⟨⟨⟨%d8, %d9, HS0, HS1, %hH⟩, Hg⟩, Ho, ⟨%d0, H0⟩, ⟨%d1, H1⟩, ⟨%d2, H2⟩, ⟨%d3, H3⟩, ⟨%d4, H4⟩, ⟨%d5, H5⟩⟩
  iapply (sound_cases m c t d3 d4 d5 d8 d9 hH)
  isplitl [Hg]; · iexact Hg
  isplitl [Ho]; · iexact Ho
  unfold held
  isplitl [H0]; · iexact H0
  isplitl [H1]; · iexact H1
  isplitl [H2]; · iexact H2
  isplitl [H3]; · iexact H3
  isplitl [H4]; · iexact H4
  isplitl [H5]; · iexact H5
  isplitl [HS0]; · iexact HS0
  iexact HS1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The region enters with nothing known of the scratch, -/
theorem Phi_in (c : Dev nD) : (Pipeline.ΦA spec0 c : sProp 𝕄) ⊢ (dats m 0 c).Φ 0 := by
  rw [PhiA0_eq, Phi_eq]
  iintro ⟨⟨⟨%d0, H0⟩, ⟨%d1, H1⟩⟩, Hg⟩
  isplitl [H0 H1]
  · iexists d0; iexists d1
    isplitl [H0]; · iexact H0
    isplitl [H1]; · iexact H1
    ipureintro; exact ⟨fun h => absurd rfl h, fun k hk => absurd hk (Nat.not_lt_zero _)⟩
  iexact Hg
/-- and leaves forgetting it. -/
theorem Phi_out (c : Dev nD) : (dats m 0 c).Φ (Fin.last cfg0.N) ⊢ (Pipeline.ΦA spec0 c : sProp 𝕄) := by
  rw [PhiA0_eq, Phi_eq]
  iintro ⟨⟨%d0, %d1, H0, H1, -⟩, Hg⟩
  isplitl [H0 H1]
  · isplitl [H0]
    · iexists d0; iexact H0
    iexists d1; iexact H1
  iexact Hg

set_option backward.isDefEq.respectTransparency.types false in
set_option maxHeartbeats 800000 in
/-- THE LAUNCH: every run of @main ends with each array of the pipeline at what the proof data say, the host lines after the
    region carried out, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- THE FRAME, at any `F`: the argument arrays end as they began, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Gen

end
-- ==== Proof.Transfer.lean ====
/- The kernel's frame at the machine's floats: its program and its idealised print are the same program, so the frame proved
   for the one is the frame of the other. -/
module

public import proofs.«01_k».proof.Defs
public import proofs.«01_k».proof.Proof.Gen.Kernel
public import proofs.«01_k».proof.Proof.Body

@[expose] public section

noncomputable section

namespace Cert.Proof

open Idealize.ShloMosaic Idealize.SL.Sem

variable {F : FTy → Type} [FloatOps F]

/-- The two prints' bodies are the same function, -/
theorem bodyEq : @Cert.KernelIdeal.cc0__body F _ _ = @Cert.Kernel.cc0__body F _ _ := rfl

/-- their labels stand for the same programs, -/
theorem defs₀Eq : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl

theorem pcfgsEq : Cert.KernelIdeal.pcfgs (F := F) = Cert.Kernel.pcfgs (F := F) := rfl

theorem defsEq : Cert.KernelIdeal.defs (F := F) = Cert.Kernel.defs (F := F) :=
  (congrArg (Pipeline.defs Cert.KernelIdeal.pcfgs) defs₀Eq).trans rfl

/-- and their main functions are the same. -/
theorem mainEq : Cert.KernelIdeal.main (F := F) = Cert.Kernel.main (F := F) := rfl

/-- The kernel, at the machine's numbers, runs to the end, keeps its arguments and leaves every counter at zero: the same program
    at the other print, whose frame holds at every kind of numbers. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [← defsEq, ← mainEq]
  exact Cert.KernelIdeal.Gen.frame (F := F) m ρ

end Cert.Proof

end
-- ==== Proof.Results.lean ====
/- The kernel's three results after the run, as closed functions of its arguments. -/
module

public import proofs.«01_k».proof.Proof.Body
public import Idealize.ShloMosaic.Lib.Claim
public import Idealize.ShloMosaic.Lib.Pipeline.ValueKit.Point

@[expose] public section

set_option maxRecDepth 16384

noncomputable section

namespace Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three arrays the region leaves -/

/-- The result array: each element from the tile it lies in; -/
def yArr (X : Vec F S6144x2560 .bf16) (W : Vec F S6400x2560 .fp8e4m3) (S : Vec F S6400x20 .f32) : Vec F S6144x6400 .bf16 := fun i =>
  yTile X W S ⟨(i 0).val / 512, by have h : (i 0).val < 6144 := (i 0).isLt; omega⟩
    ⟨(i 1).val / 256, by have h : (i 1).val < 6400 := (i 1).isLt; omega⟩
    (ValueIdx.ix2 ⟨(i 0).val % 512, Nat.mod_lt _ (by decide)⟩ ⟨(i 1).val % 256, Nat.mod_lt _ (by decide)⟩)
/-- the codes, -/
def codesArr (X : Vec F S6144x2560 .bf16) : Vec F S6144x2560 .fp8e4m3 := fun i =>
  codesTile (xRow X ⟨(i 0).val / 512, by have h : (i 0).val < 6144 := (i 0).isLt; omega⟩)
    (ValueIdx.ix2 ⟨(i 0).val % 512, Nat.mod_lt _ (by decide)⟩ (i 1))
/-- and the scales. -/
def scalesArr (X : Vec F S6144x2560 .bf16) : Vec F S6144x20 .f32 := fun i =>
  scaleTile (xRow X ⟨(i 0).val / 512, by have h : (i 0).val < 6144 := (i 0).isLt; omega⟩)
    (ValueIdx.ix2 ⟨(i 0).val % 512, Nat.mod_lt _ (by decide)⟩ (i 1))

theorem yArr_at (X : Vec F S6144x2560 .bf16) (W : Vec F S6400x2560 .fp8e4m3) (S : Vec F S6400x20 .f32) (b : Fin 12) (n : Fin 25)
    (y : S512x256.Idx) (i : S6144x6400.Idx) (h0 : (i 0).val = b.val * 512 + (y 0).val) (h1 : (i 1).val = n.val * 256 + (y 1).val) :
    yArr X W S i = yTile X W S b n y := by
  have hy0 : (y 0).val < 512 := (y 0).isLt
  have hy1 : (y 1).val < 256 := (y 1).isLt
  have hb : (⟨(i 0).val / 512, by have h : (i 0).val < 6144 := (i 0).isLt; omega⟩ : Fin 12) = b :=
    Fin.ext (by show (i 0).val / 512 = b.val; omega)
  have hn : (⟨(i 1).val / 256, by have h : (i 1).val < 6400 := (i 1).isLt; omega⟩ : Fin 25) = n :=
    Fin.ext (by show (i 1).val / 256 = n.val; omega)
  unfold yArr
  rw [hb, hn]
  refine congrArg (yTile X W S b n) (funext fun a => ?_)
  match a with
  | ⟨0, _⟩ => exact Fin.ext (by show (i 0).val % 512 = (y 0).val; omega)
  | ⟨1, _⟩ => exact Fin.ext (by show (i 1).val % 256 = (y 1).val; omega)

theorem codesArr_at (X : Vec F S6144x2560 .bf16) (b : Fin 12)
    (y : S512x2560.Idx) (i : S6144x2560.Idx) (h0 : (i 0).val = b.val * 512 + (y 0).val) (h1 : (i 1).val = (y 1).val) :
    codesArr X i = codesTile (xRow X b) y := by
  have hy0 : (y 0).val < 512 := (y 0).isLt
  have hb : (⟨(i 0).val / 512, by have h : (i 0).val < 6144 := (i 0).isLt; omega⟩ : Fin 12) = b :=
    Fin.ext (by show (i 0).val / 512 = b.val; omega)
  unfold codesArr
  rw [hb]
  refine congrArg (codesTile (xRow X b)) (funext fun a => ?_)
  match a with
  | ⟨0, _⟩ => exact Fin.ext (by show (i 0).val % 512 = (y 0).val; omega)
  | ⟨1, _⟩ => exact Fin.ext h1

theorem scalesArr_at (X : Vec F S6144x2560 .bf16) (b : Fin 12)
    (y : S512x20.Idx) (i : S6144x20.Idx) (h0 : (i 0).val = b.val * 512 + (y 0).val) (h1 : (i 1).val = (y 1).val) :
    scalesArr X i = scaleTile (xRow X b) y := by
  have hy0 : (y 0).val < 512 := (y 0).isLt
  have hb : (⟨(i 0).val / 512, by have h : (i 0).val < 6144 := (i 0).isLt; omega⟩ : Fin 12) = b :=
    Fin.ext (by show (i 0).val / 512 = b.val; omega)
  unfold scalesArr
  rw [hb]
  refine congrArg (scaleTile (xRow X b)) (funext fun a => ?_)
  match a with
  | ⟨0, _⟩ => exact Fin.ext (by show (i 0).val % 512 = (y 0).val; omega)
  | ⟨1, _⟩ => exact Fin.ext h1

/-! ## What the write-backs leave -/

theorem arr3 (c : Dev nD) : (dats m 0 c).arrAt 3 cfg0.N = yArr (V m c main_v0) (V m c main_arg1) (V m c main_arg2) := by
  refine (dats m 0 c).arrAt_eq_of_covers 3 _ (by decide +kernel) fun t hf y => ?_
  have e0 : (((cfg0.win 3).blk t).view.emb y 0).val = (rowOf t.val).val * 512 + (y 0).val := by
    have := congrFun (index0_3 t) 0
    show win0_3.index t 0 * 512 + 1 * (y 0).val = _
    rw [this]; simp
  have e1 : (((cfg0.win 3).blk t).view.emb y 1).val = (colOf t.val).val * 256 + (y 1).val := by
    have := congrFun (index0_3 t) 1
    show win0_3.index t 1 * 256 + 1 * (y 1).val = _
    rw [this]; simp
  blk_simp
  rw [after0_3]
  exact (yArr_at _ _ _ _ _ _ _ e0 e1).symm

theorem arr4 (c : Dev nD) : (dats m 0 c).arrAt 4 cfg0.N = codesArr (V m c main_v0) := by
  refine (dats m 0 c).arrAt_eq_of_covers 4 _ (by decide +kernel) fun t hf y => ?_
  have e0 : (((cfg0.win 4).blk t).view.emb y 0).val = (rowOf t.val).val * 512 + (y 0).val := by
    have := congrFun (index0_4 t) 0
    show win0_4.index t 0 * 512 + 1 * (y 0).val = _
    rw [this]; simp
  have e1 : (((cfg0.win 4).blk t).view.emb y 1).val = (y 1).val := by
    have := congrFun (index0_4 t) 1
    show win0_4.index t 1 * 2560 + 1 * (y 1).val = _
    rw [this]; simp
  blk_simp
  rw [after0_4]
  exact (codesArr_at _ _ _ _ e0 e1).symm

theorem arr5 (c : Dev nD) : (dats m 0 c).arrAt 5 cfg0.N = scalesArr (V m c main_v0) := by
  refine (dats m 0 c).arrAt_eq_of_covers 5 _ (by decide +kernel) fun t hf y => ?_
  have e0 : (((cfg0.win 5).blk t).view.emb y 0).val = (rowOf t.val).val * 512 + (y 0).val := by
    have := congrFun (index0_5 t) 0
    show win0_5.index t 0 * 512 + 1 * (y 0).val = _
    rw [this]; simp
  have e1 : (((cfg0.win 5).blk t).view.emb y 1).val = (y 1).val := by
    have := congrFun (index0_5 t) 1
    show win0_5.index t 1 * 20 + 1 * (y 1).val = _
    rw [this]; simp
  blk_simp
  rw [after0_5]
  exact (scalesArr_at _ _ _ _ e0 e1).symm

/-! ## The arguments the region reads, and the results after the host's reshapes -/

/-- The activations as the region reads them: the argument, its two leading axes joined. -/
theorem V_x (c : Dev nD) : V m c main_v0
    = shapeCast S6144x2560 (m ((c : Thread nD τ).loc main_arg0)) shapeCasts_S4x1536x2560_S6144x2560 := by
  entry_read
  rfl

theorem exit_at (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 (by decide) c (V0 m c) _ w

/-- The results: what the region leaves, its leading axis parted again. -/
theorem fin_y (c : Dev nD) : Pipeline.afterTail₀ cfgs (dats m) 0 (V0 m) [hostOps1] c main_v2
    = shapeCast S4x1536x6400 (yArr (V m c main_v0) (V m c main_arg1) (V m c main_arg2)) shapeCasts_S6144x6400_S4x1536x6400 := by
  unfold Pipeline.afterTail₀
  rw [← arr3 m c, ← exit_at m c 3]
  simp only [hostOps1, List.flatten_cons, List.flatten_nil, List.append_nil]
  rfl
theorem fin_codes (c : Dev nD) : Pipeline.afterTail₀ cfgs (dats m) 0 (V0 m) [hostOps1] c main_v3
    = shapeCast S4x1536x2560 (codesArr (V m c main_v0)) shapeCasts_S6144x2560_S4x1536x2560 := by
  unfold Pipeline.afterTail₀
  rw [← arr4 m c, ← exit_at m c 4]
  simp only [hostOps1, List.flatten_cons, List.flatten_nil, List.append_nil]
  rfl
theorem fin_scales (c : Dev nD) : Pipeline.afterTail₀ cfgs (dats m) 0 (V0 m) [hostOps1] c main_v4
    = shapeCast S4x1536x20 (scalesArr (V m c main_v0)) shapeCasts_S6144x20_S4x1536x20 := by
  unfold Pipeline.afterTail₀
  rw [← arr5 m c, ← exit_at m c 5]
  simp only [hostOps1, List.flatten_cons, List.flatten_nil, List.append_nil]
  rfl

/-- The activations, their two leading axes joined. -/
abbrev rows (x : Vec F S4x1536x2560 .bf16) : Vec F S6144x2560 .bf16 := shapeCast S6144x2560 x shapeCasts_S4x1536x2560_S6144x2560

/-- On every device the kernel runs to the end, its three results are these functions of its arguments, and its arguments
    are unchanged. -/
theorem run : θ_run defs (onTc (τ := τ) (main (F := F))) ⟨m, fun _ => 0, ρ⟩ fun r => ∀ c : Dev nD,
      r.2.mem ((c.tc : Thread nD τ).loc main_v2) = shapeCast S4x1536x6400 (yArr (rows (m ((c.tc : Thread nD τ).loc main_arg0)))
          (m ((c.tc : Thread nD τ).loc main_arg1)) (m ((c.tc : Thread nD τ).loc main_arg2))) shapeCasts_S6144x6400_S4x1536x6400
      ∧ r.2.mem ((c.tc : Thread nD τ).loc main_v3) = shapeCast S4x1536x2560 (codesArr (rows (m ((c.tc : Thread nD τ).loc main_arg0))))
          shapeCasts_S6144x2560_S4x1536x2560
      ∧ r.2.mem ((c.tc : Thread nD τ).loc main_v4) = shapeCast S4x1536x20 (scalesArr (rows (m ((c.tc : Thread nD τ).loc main_arg0))))
          shapeCasts_S6144x20_S4x1536x20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main_quiescent m ρ)
  obtain ⟨h, -⟩ := h
  have e2 := ((h c).2 main_v2 (Pipeline.mem_restRefs_of main_v2 (by decide) (by decide))).trans (fin_y m c)
  have e3 := ((h c).2 main_v3 (Pipeline.mem_restRefs_of main_v3 (by decide) (by decide))).trans (fin_codes m c)
  have e4 := ((h c).2 main_v4 (Pipeline.mem_restRefs_of main_v4 (by decide) (by decide))).trans (fin_scales m c)
  rw [V_x, V_main_arg1, V_main_arg2] at e2
  rw [V_x] at e3 e4
  exact ⟨e2, e3, e4, ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩

end Cert.KernelIdeal.Gen

end
-- ==== Proof.Scale.lean ====
/- The quantiser's scale, as a fact about one number `p` (a group's greatest magnitude over 448): the kernel counts the powers
   of two that `p` reaches and writes the scale's bits from that count; the reference takes the floor of `p`'s binary
   logarithm. The two agree where `p` is zero or well inside the range of normal numbers. -/
module

public import Idealize.ShloMosaic.PureOps.Ideal.Laws
public import Idealize.ShloMosaic.PureOps.Vector
public import Idealize.ShloMosaic.Lib.IdealHost
public import Mathlib.Analysis.SpecialFunctions.Pow.Real
public import Mathlib.Order.Interval.Finset.Fin

@[expose] public section

noncomputable section

namespace Cert.Quant

open Idealize.ShloMosaic

/-! ## The floor of the binary logarithm -/

/-- The floor of `p`'s binary logarithm: -/
def ilog2 (p : ℝ) : ℤ := ⌊Real.log p / Real.log 2⌋

/-- the greatest exponent whose power of two `p` reaches. -/
theorem zpow_le_iff (p : ℝ) (hp : 0 < p) (z : ℤ) : (2 : ℝ) ^ z ≤ p ↔ z ≤ ilog2 p := by
  have h2 : (0 : ℝ) < Real.log 2 := Real.log_pos (by norm_num)
  unfold ilog2
  rw [Int.le_floor, le_div_iff₀ h2, ← Real.log_zpow, Real.log_le_log_iff (by positivity) hp]

/-! ## Powers of two as bit patterns -/

/-- The pattern whose exponent field is `k` and whose other bits are clear. -/
abbrev pow2Bits (k : ℕ) : BitVec 32 := BitVec.ofNat 32 k <<< 23

theorem pow2Bits_fields : ∀ k : Fin 256, ((pow2Bits k.val).extractLsb' 23 8).toNat = k.val
    ∧ ((pow2Bits k.val).extractLsb' 0 23).toNat = 0 ∧ ((pow2Bits k.val).extractLsb' 31 1 == 1#1) = false := by
  decide +kernel

theorem ofBits_pow2_zero : Ideal.ofBits .f32 (pow2Bits 0) = 0 := by
  show Ideal.ofBits .f32 0x00000000#32 = 0
  exact Ideal.ofBits_zero_f32

theorem ofBits_pow2 (k : ℕ) (h0 : 0 < k) (h1 : k < 255) :
    Ideal.ofBits .f32 (pow2Bits k) = (((2 : ℝ) ^ ((k : ℤ) - 127) : ℝ) : EReal) := by
  obtain ⟨e1, e2, e3⟩ := pow2Bits_fields ⟨k, by omega⟩
  simp only at e1 e2 e3
  show Ideal.ieee 8 23 (pow2Bits k) = _
  unfold Ideal.ieee
  simp only [e1, e2, e3]
  rw [if_neg (by norm_num; omega), if_neg (by omega)]
  refine congrArg Real.toEReal ?_
  have h23 : (((2 ^ 23 + 0 : ℕ) : ℝ)) = (2 : ℝ) ^ (23 : ℤ) := by norm_num
  rw [if_neg (by decide), one_mul, h23, ← zpow_add₀ (by norm_num)]
  refine congrArg _ ?_
  norm_num

theorem ofBits_pow2_top : Ideal.ofBits .f32 (pow2Bits 255) = ⊤ := by
  obtain ⟨e1, e2, e3⟩ := pow2Bits_fields ⟨255, by omega⟩
  simp only at e1 e2 e3
  show Ideal.ieee 8 23 (pow2Bits 255) = _
  unfold Ideal.ieee
  simp only [e1, e2, e3]
  norm_num

/-! ## The kernel's count -/

/-- How many of the powers of two (and zero, and infinity) a magnitude `q` reaches, -/
def count (q : EReal) : ℕ := (Finset.univ.filter fun k : Fin 256 => ¬ q < Ideal.ofBits .f32 (pow2Bits k.val)).card
/-- and the exponent field the kernel makes of it. -/
def field (q : EReal) : BitVec 32 := (BitVec.ofNat 32 (count q) - 1#32) <<< 23

theorem count_of_reached (q : EReal) (E : ℕ) (hE : E < 256)
    (h : ∀ k : Fin 256, ¬ q < Ideal.ofBits .f32 (pow2Bits k.val) ↔ k.val ≤ E) : count q = E + 1 := by
  unfold count
  rw [Finset.filter_congr fun k _ => h k]
  have : (Finset.univ.filter fun k : Fin 256 => k.val ≤ E) = Finset.Iic (⟨E, hE⟩ : Fin 256) := by
    ext k; simp [Fin.le_def]
  rw [this, Fin.card_Iic]

theorem count_zero : count 0 = 1 := by
  refine count_of_reached 0 0 (by omega) fun k => ?_
  rcases Nat.eq_zero_or_pos k.val with h | h
  · rw [h, ofBits_pow2_zero]; simp
  · by_cases hk : k.val < 255
    · rw [ofBits_pow2 k.val h hk]
      have : (0 : ℝ) < (2 : ℝ) ^ ((k.val : ℤ) - 127) := by positivity
      have : (0 : EReal) < (((2 : ℝ) ^ ((k.val : ℤ) - 127) : ℝ) : EReal) := by exact_mod_cast this
      exact ⟨fun hn => absurd this hn, fun hn => absurd hn (by omega)⟩
    · have hk : k.val = 255 := by omega
      rw [hk, ofBits_pow2_top]
      simp

/-- The exponent field of a real inside the range of normal numbers is the floor of its binary logarithm, biased. -/
theorem count_real (p : ℝ) (hp : 0 < p) (E : ℕ) (hE0 : 0 < E) (hE1 : E < 255) (hE : ilog2 p = (E : ℤ) - 127) :
    count (p : EReal) = E + 1 := by
  refine count_of_reached _ E (by omega) fun k => ?_
  rcases Nat.eq_zero_or_pos k.val with h | h
  · rw [h, ofBits_pow2_zero]
    have : ¬ (p : EReal) < 0 := by
      rw [not_lt]; exact_mod_cast hp.le
    simp [this]
  · by_cases hk : k.val < 255
    · rw [ofBits_pow2 k.val h hk, EReal.coe_lt_coe_iff, not_lt]
      rw [zpow_le_iff p hp, hE]
      omega
    · have hk : k.val = 255 := by omega
      rw [hk, ofBits_pow2_top]
      simp only [EReal.coe_lt_top, not_true_eq_false, false_iff]
      omega

/-! ## The kernel's scale and its inverse, and the reference's -/

/-- The kernel's scale: one where the field is zero, else the power of two one above it; -/
def kScale (q : EReal) : EReal := if field q = 0#32 then 1 else Ideal.ofBits .f32 (field q + 8388608#32)
/-- and its inverse. -/
def kInv (q : EReal) : EReal := if field q = 0#32 then 1 else Ideal.ofBits .f32 (2122317824#32 - field q)

theorem field_of_count (q : EReal) (E : ℕ) (hE : E < 256) (h : count q = E + 1) : field q = pow2Bits E := by
  unfold field
  rw [h]
  congr 1
  apply BitVec.eq_of_toNat_eq
  simp [BitVec.toNat_sub, BitVec.toNat_ofNat]
  omega

theorem field_words : ∀ E : Fin 253, (0 < E.val → pow2Bits E.val ≠ 0#32) ∧ pow2Bits E.val + 8388608#32 = pow2Bits (E.val + 1)
    ∧ 2122317824#32 - pow2Bits E.val = pow2Bits (253 - E.val) := by
  decide +kernel

theorem kScale_zero : kScale 0 = 1 := by
  unfold kScale
  rw [field_of_count 0 0 (by omega) count_zero, if_pos (by decide)]
theorem kInv_zero : kInv 0 = 1 := by
  unfold kInv
  rw [field_of_count 0 0 (by omega) count_zero, if_pos (by decide)]

theorem kScale_real (p : ℝ) (hp : 0 < p) (l : ℤ) (hl : ilog2 p = l) (h0 : -126 ≤ l) (h1 : l < 126) :
    kScale (p : EReal) = (((2 : ℝ) ^ (l + 1) : ℝ) : EReal) := by
  obtain ⟨E, rfl⟩ : ∃ E : ℕ, l = (E : ℤ) - 127 := ⟨(l + 127).toNat, by omega⟩
  obtain ⟨w1, w2, -⟩ := field_words ⟨E, by omega⟩
  unfold kScale
  rw [field_of_count _ E (by omega) (count_real p hp E (by omega) (by omega) hl), if_neg (w1 (by show 0 < E; omega)), w2,
    ofBits_pow2 _ (by omega) (by show E + 1 < 255; omega)]
  congr 2
  push_cast; ring
theorem kInv_real (p : ℝ) (hp : 0 < p) (l : ℤ) (hl : ilog2 p = l) (h0 : -126 ≤ l) (h1 : l < 126) :
    kInv (p : EReal) = (((2 : ℝ) ^ (-(l + 1)) : ℝ) : EReal) := by
  obtain ⟨E, rfl⟩ : ∃ E : ℕ, l = (E : ℤ) - 127 := ⟨(l + 127).toNat, by omega⟩
  obtain ⟨w1, -, w3⟩ := field_words ⟨E, by omega⟩
  unfold kInv
  rw [field_of_count _ E (by omega) (count_real p hp E (by omega) (by omega) hl), if_neg (w1 (by show 0 < E; omega)), w3,
    ofBits_pow2 _ (by show 0 < 253 - E; omega) (by show 253 - E < 255; omega)]
  congr 2
  show ((253 - E : ℕ) : ℤ) - 127 = _
  omega

/-- The reference's exponent, of a group's greatest magnitude `a` and of `p`; -/
def rExp (a p : EReal) : EReal :=
  if a = 0 then 0 else Ideal.liftRound Int.floor (Ideal.div (Ideal.log p) (Ideal.log (Ideal.ofBits .f32 0x40000000#32))) + 1

theorem ofBits_two : Ideal.ofBits .f32 0x40000000#32 = ((2 : ℝ) : EReal) := by
  rw [show (0x40000000#32 : BitVec 32) = pow2Bits 128 by decide, ofBits_pow2 128 (by omega) (by omega)]
  norm_num

theorem rExp_real (a : EReal) (ha : a ≠ 0) (p : ℝ) (hp : 0 < p) : rExp a (p : EReal) = (((ilog2 p + 1 : ℤ) : ℝ) : EReal) := by
  have h2 : (0 : ℝ) < Real.log 2 := Real.log_pos (by norm_num)
  unfold rExp
  rw [if_neg ha, ofBits_two, Ideal.log_coe, Ideal.log_coe, if_neg (not_le.mpr hp), if_neg (by norm_num)]
  unfold Ideal.div
  rw [if_neg (by exact_mod_cast h2.ne'), ← EReal.coe_inv, ← EReal.coe_mul]
  have hf : ⌊Real.log p * (Real.log 2)⁻¹⌋ = ilog2 p := by
    rw [← div_eq_mul_inv]; rfl
  show ((⌊Real.log p * (Real.log 2)⁻¹⌋ : ℝ) : EReal) + 1 = _
  rw [hf]
  push_cast
  rfl

/-- In the range the precondition names, the two scales are one, -/
theorem scale_eq (a p : EReal) (ha : a = 0 ↔ p = 0)
    (h : p = 0 ∨ (Ideal.ofBits .f32 0x00800000#32 ≤ p ∧ p < Ideal.ofBits .f32 0x7E800000#32)) :
    kScale p = Ideal.exp2 (rExp a p) ∧ kInv p = Ideal.exp2 (0 - rExp a p) := by
  by_cases hp : p = 0
  · have ha0 := ha.mpr hp
    subst hp
    unfold rExp
    rw [if_pos ha0, kScale_zero, kInv_zero]
    have : Ideal.exp2 0 = 1 := by
      show ((Real.rpow 2 0 : ℝ) : EReal) = 1
      rw [Real.rpow_eq_pow, Real.rpow_zero]; rfl
    rw [sub_zero, this]
    exact ⟨rfl, rfl⟩
  · obtain ⟨hlo, hhi⟩ := h.resolve_left hp
    rw [show (0x00800000#32 : BitVec 32) = pow2Bits 1 by decide, ofBits_pow2 1 (by omega) (by omega)] at hlo
    rw [show (0x7E800000#32 : BitVec 32) = pow2Bits 253 by decide, ofBits_pow2 253 (by omega) (by omega)] at hhi
    induction p using EReal.rec with
    | bot => exact absurd hlo (by simp)
    | top => exact absurd hhi (by simp)
    | coe p =>
      rw [EReal.coe_le_coe_iff] at hlo
      rw [EReal.coe_lt_coe_iff] at hhi
      have hpos : 0 < p := lt_of_lt_of_le (by positivity) hlo
      have h0 : -126 ≤ ilog2 p := by
        rw [← zpow_le_iff p hpos]
        simpa using hlo
      have h1 : ilog2 p < 126 := by
        rw [← not_le, ← zpow_le_iff p hpos, not_le]
        simpa using hhi
      rw [rExp_real a (fun e => hp (ha.mp e)) p hpos, kScale_real p hpos _ rfl h0 h1, kInv_real p hpos _ rfl h0 h1]
      constructor
      · show _ = ((Real.rpow 2 _ : ℝ) : EReal)
        rw [Real.rpow_eq_pow, Real.rpow_intCast]
      · rw [show (0 : EReal) - (((ilog2 p + 1 : ℤ) : ℝ) : EReal) = (((-(ilog2 p + 1) : ℤ) : ℝ) : EReal) by
          rw [zero_sub]; push_cast; rfl]
        show _ = ((Real.rpow 2 _ : ℝ) : EReal)
        rw [Real.rpow_eq_pow, Real.rpow_intCast]

/-! ## A group of 128 numbers -/

/-- The greatest magnitude of a group of 128 numbers, as a fold of `max` from minus infinity; -/
def amax (f : Fin 128 → EReal) : EReal :=
  (Finset.univ : Finset (Fin 128)).fold max (Ideal.ofBits .f32 0xFF800000#32) fun j => max (f j) (-(f j))
/-- over 448, as the programs take it: times the reciprocal's pattern; -/
def quot (f : Fin 128 → EReal) : EReal := amax f * Ideal.ofBits .f32 0x3B124925#32
/-- and its magnitude. -/
def mag (f : Fin 128 → EReal) : EReal := max (quot f) (-(quot f))

/-- A number times a group's inverse scale, clipped to the range of the codes. -/
def clip (x : EReal) : EReal := min (Ideal.ofBits .f32 0x43E00000#32) (max (Ideal.ofBits .f32 0xC3E00000#32) x)

end Cert.Quant

end
-- ==== Proof.Reads.lean ====
/- The kernel's tiles over the extended reals, element by element: the scale and the inverse scale of a row's group of columns,
   the codes, the dequantised operands and the product. -/
module

public import proofs.«01_k».proof.Proof.Results
public import proofs.«01_k».proof.Proof.Scale
public import Idealize.ShloMosaic.Lib.IndicatorCount
public import Idealize.ShloMosaic.Lib.MatmulPlain
public import Idealize.ShloMosaic.Lib.ValueLayoutCasts

@[expose] public section

set_option maxRecDepth 16384

noncomputable section

namespace Cert.KernelIdeal.Gen

open Idealize.ShloMosaic Idealize.ShloMosaic.ValueIdx Cert.Quant

/-- Row `r` of a group's block. -/
abbrev rowv (v : Vec Ideal S512x128 .bf16) (r : Fin 512) : Fin 128 → EReal := fun j => v (ValueIdx.ix2 r j)

theorem pay5_apply (v : Vec Ideal S512x128 .bf16) (i : S512x128.Idx) : k0_pay5 v i = v i := by
  show shapeCast S512x128 v shapeCasts_S512x128_S512x128 i = v i
  exact shapeCast_apply _ _ _ _ rfl

/-- The greatest magnitude the kernel takes of a row of a group's block. -/
theorem rowmax_apply (v : Vec Ideal S512x128 .bf16) (r : Fin 512) :
    multiReduction .maximumf [1] S512 (absf (k0_pay5 v)) 0xFF800000#32 reduces_S512x128_S512 (.inl rfl) rfl (ValueIdx.ix1 r)
      = amax (rowv v r) := by
  refine (Ideal.multiReduction_maximumf_single (absf (k0_pay5 v)) _ reduces_S512x128_S512 _ _ (ValueIdx.ix1 r)).trans ?_
  unfold amax
  refine Finset.fold_congr fun j _ => ?_
  have e : (reduces_S512x128_S512.lift (ValueIdx.ix1 r) j : S512x128.Idx) = ValueIdx.ix2 r j := by
    funext a
    match a with
    | ⟨0, _⟩ => rfl
    | ⟨1, _⟩ => rfl
  show max (k0_pay5 v _) (-(k0_pay5 v _)) = _
  rw [pay5_apply, e]
  rfl

/-- The count of powers of two the kernel takes of a column of numbers: where `p` is below one, it adds nothing. -/
theorem count_apply (p : FVec Ideal S512x1 .f32) (r : Fin 512) :
    multiReductionI .add [1] S512
        (select (cmpf .olt (broadcastTo S512x256 (absf p) broadcasts_S512x1_S512x256)
            (bitcastToFloat .f32 (shli (iota .tc S512x256 32 [1] iota_S512x256_d1_w32) (broadcast S512x256 23#32))))
          (broadcast S512x256 0#32) (broadcast S512x256 1#32)) 0#32 reduces_S512x256_S512 rfl (ValueIdx.ix1 r)
      = BitVec.ofNat 32 (Quant.count (max (p (ValueIdx.ix2 r 0)) (-(p (ValueIdx.ix2 r 0))))) := by
  refine (multiReductionI_eq_fold _ _ _ _ _ _).trans ?_
  refine (reduces_S512x256_S512.fold_filter_drop_single _ _ _ _).trans ?_
  unfold Quant.count
  have key := IndicatorCount.fold_addi_setWidth_eq_card (w := 32)
    (fun k : Fin 256 => BitVec.ofBool (decide (¬ max (p (ValueIdx.ix2 r 0)) (-(p (ValueIdx.ix2 r 0))) < Ideal.ofBits .f32 (pow2Bits k.val)))) Finset.univ
  refine Eq.trans (Finset.fold_congr fun k _ => ?_) (key.trans ?_)
  · have e : (reduces_S512x256_S512.lift (ValueIdx.ix1 r) k : S512x256.Idx) = ValueIdx.ix2 r k := by
      funext a
      match a with
      | ⟨0, _⟩ => rfl
      | ⟨1, _⟩ => rfl
    show (select _ _ _) (reduces_S512x256_S512.lift (ValueIdx.ix1 r) k) = _
    rw [e]
    have hb : broadcastTo S512x256 (absf p) broadcasts_S512x1_S512x256 (ValueIdx.ix2 r k) = max (p (ValueIdx.ix2 r 0)) (-(p (ValueIdx.ix2 r 0))) :=
      broadcastTo_apply (absf p) _ _ (ValueIdx.ix2 r 0) (fun a => match a with | ⟨0, _⟩ => rfl | ⟨1, _⟩ => rfl)
    have hc : bitcastToFloat (F := Ideal) .f32 (shli (iota .tc S512x256 32 [1] iota_S512x256_d1_w32) (broadcast S512x256 23#32)) (ValueIdx.ix2 r k)
        = Ideal.ofBits .f32 (pow2Bits k.val) := by
      show Ideal.ofBits .f32 (IntOp.shli .vector (iota .tc S512x256 32 [1] iota_S512x256_d1_w32 (ValueIdx.ix2 r k)) 23#32) = _
      rw [iota_single_apply]
      rfl
    show (if FloatOps.cmpf .olt (broadcastTo S512x256 (absf p) broadcasts_S512x1_S512x256 (ValueIdx.ix2 r k)) (bitcastToFloat (F := Ideal) .f32 (shli (iota .tc S512x256 32 [1] iota_S512x256_d1_w32) (broadcast S512x256 23#32)) (ValueIdx.ix2 r k)) = 1#1 then 0#32 else 1#32) = _
    rw [hb, hc]
    show (if BitVec.ofBool (decide _) = 1#1 then 0#32 else 1#32) = _
    by_cases h : max (p (ValueIdx.ix2 r 0)) (-(p (ValueIdx.ix2 r 0))) < Ideal.ofBits .f32 (pow2Bits k.val) <;> simp [h]
  · congr 2
    refine Finset.filter_congr fun k _ => ?_
    by_cases h : max (p (ValueIdx.ix2 r 0)) (-(p (ValueIdx.ix2 r 0))) < Ideal.ofBits .f32 (pow2Bits k.val) <;> simp [h]

/-- The exponent field the kernel works with. -/
theorem pay6_apply (v : Vec Ideal S512x128 .bf16) (r : Fin 512) (u : Fin 1) : k0_pay6 v (ValueIdx.ix2 r u) = field (mag (rowv v r)) := by
  obtain rfl : u = 0 := Subsingleton.elim _ _
  unfold k0_pay6 field
  show IntOp.shli .vector (IntOp.subi (shapeCast S512x1 _ shapeCasts_S512_S512x1 (ValueIdx.ix2 r 0)) 1#32) 23#32 = _
  rw [shapeCast_a_a1_apply, count_apply]
  have hp : mulf (shapeCast S512x1 (multiReduction .maximumf [1] S512 (absf (k0_pay5 v)) 0xFF800000#32 reduces_S512x128_S512 (.inl rfl) rfl)
      shapeCasts_S512_S512x1) (broadcast S512x1 (Scalar.ofBits (F := Ideal) .f32 0x3B124925#32)) (ValueIdx.ix2 r 0) = quot (rowv v r) := by
    show shapeCast S512x1 _ shapeCasts_S512_S512x1 (ValueIdx.ix2 r 0) * Ideal.ofBits .f32 0x3B124925#32 = _
    rw [shapeCast_a_a1_apply, rowmax_apply]
    rfl
  rw [hp]
  rfl

/-- The scale of a row's group, -/
theorem pay8_apply (v : Vec Ideal S512x128 .bf16) (r : Fin 512) (u : Fin 1) : k0_pay8 v (ValueIdx.ix2 r u) = kScale (mag (rowv v r)) := by
  unfold k0_pay8 k0_pay7 kScale
  show (if IntOp.cmpi .eq (k0_pay6 v (ValueIdx.ix2 r u)) 0#32 = 1#1 then Ideal.ofBits .f32 0x3F800000#32
    else Ideal.ofBits .f32 (IntOp.addi (k0_pay6 v (ValueIdx.ix2 r u)) 8388608#32)) = _
  rw [pay6_apply]
  show (if BitVec.ofBool (decide (_ = _)) = 1#1 then _ else _) = _
  by_cases h : field (mag (rowv v r)) = 0#32
  · simp [h]
  · simp [h]; rfl

/-- the codes of its elements, -/
theorem pay9_apply (v : Vec Ideal S512x128 .bf16) (r : Fin 512) (j : Fin 128) :
    k0_pay9 v (ValueIdx.ix2 r j) = clip (v (ValueIdx.ix2 r j) * kInv (mag (rowv v r))) := by
  unfold k0_pay9 k0_pay7
  have hs : select (cmpi .eq (k0_pay6 v) (broadcast S512x1 0#32)) (broadcast S512x1 (Scalar.ofBits (F := Ideal) .f32 0x3F800000#32))
      (bitcastToFloat (F := Ideal) .f32 (subi (broadcast S512x1 2122317824#32) (k0_pay6 v))) (ValueIdx.ix2 r 0) = kInv (mag (rowv v r)) := by
    unfold kInv
    show (if IntOp.cmpi .eq (k0_pay6 v (ValueIdx.ix2 r 0)) 0#32 = 1#1 then Ideal.ofBits .f32 0x3F800000#32
      else Ideal.ofBits .f32 (IntOp.subi 2122317824#32 (k0_pay6 v (ValueIdx.ix2 r 0)))) = _
    rw [pay6_apply]
    show (if BitVec.ofBool (decide (_ = _)) = 1#1 then _ else _) = _
    by_cases h : field (mag (rowv v r)) = 0#32
    · simp [h]
    · simp [h]; rfl
  show min (Ideal.ofBits .f32 0x43E00000#32) (max (Ideal.ofBits .f32 0xC3E00000#32)
    (k0_pay5 v (ValueIdx.ix2 r j) * broadcastTo S512x128 _ broadcasts_S512x1_S512x128 (ValueIdx.ix2 r j))) = _
  rw [broadcastTo_apply _ _ _ (ValueIdx.ix2 r 0) (fun a => match a with | ⟨0, _⟩ => rfl | ⟨1, _⟩ => rfl), hs, pay5_apply]
  rfl

/-- and the dequantised elements. -/
theorem pay10_apply (s : FVec Ideal S512x1 .f32) (w : FVec Ideal S512x128 .fp8e4m3) (r : Fin 512) (j : Fin 128) :
    k0_pay10 s w (ValueIdx.ix2 r j) = w (ValueIdx.ix2 r j) * s (ValueIdx.ix2 r 0) := by
  unfold k0_pay10
  show shapeCast S512x128 _ shapeCasts_S512x128_S512x128 (ValueIdx.ix2 r j) = _
  rw [shapeCast_apply _ _ _ (ValueIdx.ix2 r j) rfl]
  show w (ValueIdx.ix2 r j) * broadcastTo S512x128 _ broadcasts_S512x1_S512x128 (ValueIdx.ix2 r j) = _
  rw [broadcastTo_apply _ _ _ (ValueIdx.ix2 r 0) (fun a => match a with | ⟨0, _⟩ => rfl | ⟨1, _⟩ => rfl)]
  rfl

/-- A dequantised weight. -/
theorem pay2_apply (s : Vec Ideal S256x1 .f32) (w : Vec Ideal S256x128 .fp8e4m3) (r : Fin 256) (j : Fin 128) :
    k0_pay2 s w (ValueIdx.ix3 0 r j) = w (ValueIdx.ix2 r j) * s (ValueIdx.ix2 r 0) := by
  unfold k0_pay2
  show shapeCast S1x256x128 _ shapeCasts_S256x128_S1x256x128 (ValueIdx.ix3 0 r j) = _
  rw [shapeCast_ab_1ab_apply]
  show w (ValueIdx.ix2 r j) * broadcastTo S256x128 _ broadcasts_S256x1_S256x128 (ValueIdx.ix2 r j) = _
  rw [broadcastTo_apply _ _ _ (ValueIdx.ix2 r 0) (fun a => match a with | ⟨0, _⟩ => rfl | ⟨1, _⟩ => rfl)]
  rfl

/-- A tile's element: the sum over the 2560 columns. -/
theorem pay4_apply (x : Vec Ideal S512x2560 .bf16) (w : Vec Ideal S1x256x2560 .bf16) (r : Fin 512) (n : Fin 256) :
    k0_pay4 x w (ValueIdx.ix2 r n) = ∑ k : Fin 2560, x (ValueIdx.ix2 r k) * w (ValueIdx.ix3 0 n k) := by
  unfold k0_pay4
  show FloatOps.matmul (F := Ideal) (φ₁ := .bf16) (φ₂ := .bf16) (DotDims.transposedRhs 512 2560 256) none x
    (shapeCast S256x2560 w shapeCasts_S1x256x2560_S256x2560) (constant S512x256 .f32 0x00000000#32) (ValueIdx.ix2 r n) = _
  refine (Ideal.matmul_transposedRhs_apply none x _ _ r n).trans ?_
  show Ideal.ofBits .f32 0x00000000#32 + _ = _
  rw [Ideal.ofBits_zero_f32, zero_add]
  refine Finset.sum_congr rfl fun k _ => ?_
  rw [shapeCast_1ab_ab_apply]

end Cert.KernelIdeal.Gen

end
-- ==== Proof.Elements.lean ====
/- The kernel's three results over the extended reals, element by element, in terms of its arguments. -/
module

public import proofs.«01_k».proof.Proof.Reads

@[expose] public section

set_option maxRecDepth 16384

noncomputable section

namespace Cert.KernelIdeal.Gen

open Idealize.ShloMosaic Cert.Quant

/-- The group a column lies in, and its place there. -/
abbrev gOf (k : Fin 2560) : Fin 20 := ⟨k.val / 128, by omega⟩
abbrev jOf (k : Fin 2560) : Fin 128 := ⟨k.val % 128, by omega⟩

/-- A group of 128 columns of one row of the activations. -/
abbrev grp (x : Vec Ideal S4x1536x2560 .bf16) (b : Fin 4) (s : Fin 1536) (g : Fin 20) : Fin 128 → EReal :=
  fun j => x (ValueIdx.ix3 b s ⟨128 * g.val + j.val, by omega⟩)

/-! ## Column groups of a block -/

theorem xgrp_apply (T : Vec Ideal S512x2560 .bf16) (g : Fin 20) (r : Fin 512) (j : Fin 128) :
    xgrp T g (ValueIdx.ix2 r j) = T (ValueIdx.ix2 r ⟨128 * g.val + j.val, by omega⟩) := by
  unfold xgrp
  refine congrArg T (funext fun a => ?_)
  match a with
  | ⟨0, _⟩ => exact Fin.ext (by show 0 + 1 * r.val = r.val; omega)
  | ⟨1, _⟩ => exact Fin.ext (by show 128 * g.val + 1 * j.val = 128 * g.val + j.val; omega)

theorem wgrp_apply (T : Vec Ideal S256x2560 .fp8e4m3) (g : Fin 20) (r : Fin 256) (j : Fin 128) :
    wgrp T g (ValueIdx.ix2 r j) = T (ValueIdx.ix2 r ⟨128 * g.val + j.val, by omega⟩) := by
  unfold wgrp
  refine congrArg T (funext fun a => ?_)
  match a with
  | ⟨0, _⟩ => exact Fin.ext (by show 0 + 1 * r.val = r.val; omega)
  | ⟨1, _⟩ => exact Fin.ext (by show 128 * g.val + 1 * j.val = 128 * g.val + j.val; omega)

theorem sgrp_apply (T : Vec Ideal S256x20 .f32) (g : Fin 20) (r : Fin 256) :
    sgrp T g (ValueIdx.ix2 r 0) = T (ValueIdx.ix2 r g) := by
  unfold sgrp
  refine congrArg T (funext fun a => ?_)
  match a with
  | ⟨0, _⟩ => exact Fin.ext (by show 0 + 1 * r.val = r.val; omega)
  | ⟨1, _⟩ => exact Fin.ext (by show g.val + 1 * 0 = g.val; omega)

/-- A row of a row block is a row of the argument: `R` is row `1536 b + s` of the joined axes. -/
theorem xRow_apply (x : Vec Ideal S4x1536x2560 .bf16) (b : Fin 4) (s : Fin 1536) (B : Fin 12) (r : Fin 512)
    (h : 512 * B.val + r.val = b.val * 1536 + s.val) (k : Fin 2560) :
    xRow (rows x) B (ValueIdx.ix2 r k) = x (ValueIdx.ix3 b s k) := by
  unfold xRow
  refine shapeCast_apply _ _ _ (ValueIdx.ix3 b s k) ?_
  rw [Shape.rowMajor_val_three, Shape.rowMajor_val_two]
  show (b.val * 1536 + s.val) * 2560 + k.val = (512 * B.val + r.val) * 2560 + k.val
  rw [h]

/-- A row's group is the argument's. -/
theorem rowv_grp (x : Vec Ideal S4x1536x2560 .bf16) (b : Fin 4) (s : Fin 1536) (g : Fin 20) (B : Fin 12) (r : Fin 512)
    (h : 512 * B.val + r.val = b.val * 1536 + s.val) : rowv (xgrp (xRow (rows x) B) g) r = grp x b s g := by
  funext j
  exact (xgrp_apply _ g r j).trans (xRow_apply x b s B r h _)

/-! ## The tiles -/

section Tiles
variable (x : Vec Ideal S4x1536x2560 .bf16) (b : Fin 4) (s : Fin 1536) (B : Fin 12) (r : Fin 512)
  (h : 512 * B.val + r.val = b.val * 1536 + s.val)
include h

theorem scaleTile_apply (g : Fin 20) : scaleTile (xRow (rows x) B) (ValueIdx.ix2 r g) = kScale (mag (grp x b s g)) := by
  rw [← rowv_grp x b s g B r h]
  exact pay8_apply (xgrp (xRow (rows x) B) g) r 0

theorem codesTile_apply (k : Fin 2560) : codesTile (xRow (rows x) B) (ValueIdx.ix2 r k)
    = clip (grp x b s (gOf k) (jOf k) * kInv (mag (grp x b s (gOf k)))) := by
  rw [← rowv_grp x b s (gOf k) B r h]
  exact pay9_apply (xgrp (xRow (rows x) B) (gOf k)) r (jOf k)

theorem deqTile_apply (k : Fin 2560) : deqTile (xRow (rows x) B) (ValueIdx.ix2 r k)
    = clip (grp x b s (gOf k) (jOf k) * kInv (mag (grp x b s (gOf k)))) * kScale (mag (grp x b s (gOf k))) := by
  rw [← rowv_grp x b s (gOf k) B r h]
  refine (pay10_apply _ _ r (jOf k)).trans ?_
  rw [pay9_apply, pay8_apply]

end Tiles

theorem wdOf_apply (W : Vec Ideal S6400x2560 .fp8e4m3) (S : Vec Ideal S6400x20 .f32) (n : Fin 25) (r : Fin 256) (o : Fin 6400)
    (h : 256 * n.val + r.val = o.val) (k : Fin 2560) :
    wdOf W S n (ValueIdx.ix3 0 r k) = W (ValueIdx.ix2 o k) * S (ValueIdx.ix2 o (gOf k)) := by
  have ho : (⟨256 * n.val + r.val, by omega⟩ : Fin 6400) = o := Fin.ext h
  rw [← ho]
  unfold wdOf wdSlab
  refine (pay2_apply (sgrp (sTile S n) (gOf k)) (wgrp (wTile W n) (gOf k)) r (jOf k)).trans ?_
  rw [wgrp_apply, sgrp_apply]
  have hk : (⟨128 * (gOf k).val + (jOf k).val, by omega⟩ : Fin 2560) = k := Fin.ext (by show 128 * (k.val / 128) + k.val % 128 = k.val; omega)
  rw [hk]
  rfl

/-! ## The results -/

/-- The block a row of the joined axes lies in, and its place there. -/
theorem block_row (b : Fin 4) (s : Fin 1536) :
    512 * ((b.val * 1536 + s.val) / 512) + (b.val * 1536 + s.val) % 512 = b.val * 1536 + s.val := by omega

theorem scales_apply (x : Vec Ideal S4x1536x2560 .bf16) (b : Fin 4) (s : Fin 1536) (g : Fin 20) :
    shapeCast S4x1536x20 (scalesArr (rows x)) shapeCasts_S6144x20_S4x1536x20 (ValueIdx.ix3 b s g) = kScale (mag (grp x b s g)) := by
  refine (shapeCast_apply _ _ _ (ValueIdx.ix2 ⟨b.val * 1536 + s.val, by omega⟩ g) ?_).trans ?_
  · rw [Shape.rowMajor_val_three, Shape.rowMajor_val_two]
    rfl
  exact scaleTile_apply x b s ⟨(b.val * 1536 + s.val) / 512, by omega⟩ ⟨(b.val * 1536 + s.val) % 512, by omega⟩ (block_row b s) g

theorem codes_apply (x : Vec Ideal S4x1536x2560 .bf16) (b : Fin 4) (s : Fin 1536) (k : Fin 2560) :
    shapeCast S4x1536x2560 (codesArr (rows x)) shapeCasts_S6144x2560_S4x1536x2560 (ValueIdx.ix3 b s k)
      = clip (grp x b s (gOf k) (jOf k) * kInv (mag (grp x b s (gOf k)))) := by
  refine (shapeCast_apply _ _ _ (ValueIdx.ix2 ⟨b.val * 1536 + s.val, by omega⟩ k) ?_).trans ?_
  · rw [Shape.rowMajor_val_three, Shape.rowMajor_val_two]
    rfl
  exact codesTile_apply x b s ⟨(b.val * 1536 + s.val) / 512, by omega⟩ ⟨(b.val * 1536 + s.val) % 512, by omega⟩ (block_row b s) k

theorem y_apply (x : Vec Ideal S4x1536x2560 .bf16) (W : Vec Ideal S6400x2560 .fp8e4m3) (S : Vec Ideal S6400x20 .f32)
    (b : Fin 4) (s : Fin 1536) (o : Fin 6400) :
    shapeCast S4x1536x6400 (yArr (rows x) W S) shapeCasts_S6144x6400_S4x1536x6400 (ValueIdx.ix3 b s o)
      = ∑ k : Fin 2560, clip (grp x b s (gOf k) (jOf k) * kInv (mag (grp x b s (gOf k)))) * kScale (mag (grp x b s (gOf k)))
          * (W (ValueIdx.ix2 o k) * S (ValueIdx.ix2 o (gOf k))) := by
  refine (shapeCast_apply _ _ _ (ValueIdx.ix2 ⟨b.val * 1536 + s.val, by omega⟩ o) ?_).trans ?_
  · rw [Shape.rowMajor_val_three, Shape.rowMajor_val_two]
    rfl
  refine (pay4_apply (deqTile (xRow (rows x) ⟨(b.val * 1536 + s.val) / 512, by omega⟩)) (wdOf W S ⟨o.val / 256, by omega⟩)
    ⟨(b.val * 1536 + s.val) % 512, by omega⟩ ⟨o.val % 256, by omega⟩).trans ?_
  refine Finset.sum_congr rfl fun k _ => ?_
  rw [deqTile_apply x b s _ _ (block_row b s), wdOf_apply W S ⟨o.val / 256, by omega⟩ ⟨o.val % 256, by omega⟩ o
    (by show 256 * (o.val / 256) + o.val % 256 = o.val; omega)]

end Cert.KernelIdeal.Gen

end
-- ==== Proof.RefRun.lean ====
/- The reference's three results after the run, as closed functions of its arguments. -/
module

public import proofs.«01_k».proof.Proof.Gen.ReferenceIdeal.Frame
public import Idealize.ShloMosaic.Lib.Pipeline.Value
public import Idealize.ShloMosaic.Lib.Pipeline.ValueKit.Point

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.Sem
open Idealize.ShloMosaic.Pipeline (Dat)

variable {F : FTy → Type} [FloatOps F]
variable (m : (ℓ : Loc nD τ sig) → Buf (Elt F) ℓ) (ρ : Dev nD → PrngReg)

/-! ## The one grid point's blocks are the arguments -/

theorem index0_0 : ∀ (t : Fin cfg0.N) a, win0_0.index t a = 0 := by decide +kernel
theorem index0_1 : ∀ (t : Fin cfg0.N) a, win0_1.index t a = 0 := by decide +kernel
theorem index0_2 : ∀ (t : Fin cfg0.N) a, win0_2.index t a = 0 := by decide +kernel

theorem iblk0_eq (c : Dev nD) (t : Fin cfg0.N) : iblk m c 0 t = m ((c : Thread nD τ).loc main_arg0) := by
  funext y
  blk_ext [iblk, index0_0]
theorem iblk1_eq (c : Dev nD) (t : Fin cfg0.N) : iblk m c 1 t = m ((c : Thread nD τ).loc main_arg1) := by
  funext y
  blk_ext [iblk, index0_1]
theorem iblk2_eq (c : Dev nD) (t : Fin cfg0.N) : iblk m c 2 t = m ((c : Thread nD τ).loc main_arg2) := by
  funext y
  blk_ext [iblk, index0_2]

/-! ## What the body leaves in each output -/

theorem out3_eq (x : Vec F S4x1536x2560 .bf16) (w : Vec F S6400x2560 .fp8e4m3) (s : Vec F S6400x20 .f32) :
    out0_3 x w s = k0_pay1 (k0_pay7 x) w s := by
  funext y
  frame_out
theorem out4_eq (x : Vec F S4x1536x2560 .bf16) (w : Vec F S6400x2560 .fp8e4m3) (s : Vec F S6400x20 .f32) :
    out0_4 x w s = k0_pay6 x := by
  funext y
  frame_out
theorem out5_eq (x : Vec F S4x1536x2560 .bf16) (w : Vec F S6400x2560 .fp8e4m3) (s : Vec F S6400x20 .f32) :
    out0_5 x w s = k0_pay4 x := by
  funext y
  frame_out

/-! ## The three arrays after the run -/

theorem arr3 (c : Dev nD) : (dats m 0 c).arrAt 3 cfg0.N = k0_pay1 (k0_pay7 (m ((c : Thread nD τ).loc main_arg0)))
    (m ((c : Thread nD τ).loc main_arg1)) (m ((c : Thread nD τ).loc main_arg2)) := by
  refine (dats m 0 c).arrAt_eq_of_after_last 3 ⟨0, by decide⟩ (by decide +kernel) _ fun j => ?_
  show (dats m 0 c).after 3 ⟨0, by decide⟩ j = _
  rw [after0_3, out3_eq, iblk0_eq, iblk1_eq, iblk2_eq]
  rfl
theorem arr4 (c : Dev nD) : (dats m 0 c).arrAt 4 cfg0.N = k0_pay6 (m ((c : Thread nD τ).loc main_arg0)) := by
  refine (dats m 0 c).arrAt_eq_of_after_last 4 ⟨0, by decide⟩ (by decide +kernel) _ fun j => ?_
  show (dats m 0 c).after 4 ⟨0, by decide⟩ j = _
  rw [after0_4, out4_eq, iblk0_eq]
  rfl
theorem arr5 (c : Dev nD) : (dats m 0 c).arrAt 5 cfg0.N = k0_pay4 (m ((c : Thread nD τ).loc main_arg0)) := by
  refine (dats m 0 c).arrAt_eq_of_after_last 5 ⟨0, by decide⟩ (by decide +kernel) _ fun j => ?_
  show (dats m 0 c).after 5 ⟨0, by decide⟩ j = _
  rw [after0_5, out5_eq, iblk0_eq]
  rfl

/-- On every device the reference runs to the end, its three results are these functions of its arguments, and its arguments
    are unchanged. -/
theorem run : θ_run defs (onTc (τ := τ) (main (F := F))) ⟨m, fun _ => 0, ρ⟩ fun r => ∀ c : Dev nD,
      r.2.mem ((c.tc : Thread nD τ).loc main_v0_0) = k0_pay1 (k0_pay7 (m ((c.tc : Thread nD τ).loc main_arg0)))
          (m ((c.tc : Thread nD τ).loc main_arg1)) (m ((c.tc : Thread nD τ).loc main_arg2))
      ∧ r.2.mem ((c.tc : Thread nD τ).loc main_v0_1) = k0_pay6 (m ((c.tc : Thread nD τ).loc main_arg0))
      ∧ r.2.mem ((c.tc : Thread nD τ).loc main_v0_2) = k0_pay4 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (arr3 m c), ((h c).1 4).trans (arr4 m c), ((h c).1 5).trans (arr5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Gen

end
-- ==== Proof.RefReads.lean ====
/- The reference's arrays over the extended reals, element by element: each group's scale, the codes, the dequantised operands
   and the product. -/
module

public import proofs.«01_k».proof.Proof.RefRun
public import proofs.«01_k».proof.Proof.Scale
public import Idealize.ShloMosaic.Lib.MatmulPlain

@[expose] public section

set_option maxRecDepth 16384

noncomputable section

namespace Cert.ReferenceIdeal.Gen

open Idealize.ShloMosaic Cert.Quant

/-! ## The operations at an index, over the extended reals -/

section At
variable {s : Shape} {φ ψ : FTy} (x y : FVec Ideal s φ) (i : s.Idx)
theorem exp2_at : exp2 x i = Ideal.exp2 (x i) := rfl
theorem log_at : log x i = Ideal.log (x i) := rfl
theorem floor_at : floor x i = Ideal.liftRound Int.floor (x i) := rfl
theorem div_at : divf x y i = Ideal.div (x i) (y i) := rfl
theorem mul_at : mulf x y i = (x i * y i : EReal) := rfl
theorem add_at : addf x y i = (x i + y i : EReal) := rfl
theorem sub_at : subf x y i = (x i - y i : EReal) := rfl
theorem max_at : maximumf x y i = (max (x i) (y i) : EReal) := rfl
theorem min_at : minimumf x y i = (min (x i) (y i) : EReal) := rfl
theorem abs_at : absf x i = (max (x i) (-(x i)) : EReal) := rfl
theorem trunc_at (h : FTy.bits ψ < FTy.bits φ) : truncf ψ x h i = x i := rfl
theorem ext_at (h : FTy.bits φ < FTy.bits ψ) : extf ψ x h i = x i := rfl
theorem splat_at (b : BitVec (FTy.bits φ)) : broadcast s (Scalar.ofBits (F := Ideal) φ b) i = Ideal.ofBits φ b := rfl
theorem select_eq_at (u v : FVec Ideal s ψ) :
    select (cmpf .oeq x y) u v i = if x i = y i then u i else v i := by
  show (if BitVec.ofBool (decide ((x i : EReal) = y i)) = 1#1 then u i else v i) = _
  by_cases h : (x i : EReal) = y i
  · rw [if_pos (show (x i = y i) from h)]; simp [h]
  · rw [if_neg (show ¬ (x i = y i) from h)]; simp [h]
end At

/-! ## The payloads -/

/-- The group a column lies in, and its place there. -/
abbrev gOf (k : Fin 2560) : Fin 20 := ⟨k.val / 128, by omega⟩
abbrev jOf (k : Fin 2560) : Fin 128 := ⟨k.val % 128, by omega⟩

/-- A group of 128 columns of one row of the activations. -/
abbrev grp (X : Vec Ideal S4x1536x2560 .bf16) (b : Fin 4) (s : Fin 1536) (g : Fin 20) : Fin 128 → EReal :=
  fun j => X (ValueIdx.ix3 b s ⟨128 * g.val + j.val, by omega⟩)

theorem pay2_apply (X : Vec Ideal S4x1536x2560 .bf16) (b : Fin 4) (s : Fin 1536) (g : Fin 20) (j : Fin 128) :
    k0_pay2 X (ValueIdx.ix4 b s g j) = grp X b s g j := by
  unfold k0_pay2
  refine shapeCast_apply _ _ _ (ValueIdx.ix3 b s ⟨128 * g.val + j.val, by omega⟩) ?_
  rw [Shape.rowMajor_val_three, Shape.rowMajor_val_four]
  show (b.val * 1536 + s.val) * 2560 + (128 * g.val + j.val) = ((b.val * 1536 + s.val) * 20 + g.val) * 128 + j.val
  omega

/-- The greatest magnitude of a group. -/
theorem groupmax_apply (X : Vec Ideal S4x1536x2560 .bf16) (b : Fin 4) (s : Fin 1536) (g : Fin 20) :
    multiReduction .maximumf [3] S4x1536x20 (absf (k0_pay2 X)) 0xFF800000#32 reduces_S4x1536x20x128_S4x1536x20 (.inl rfl) rfl (ValueIdx.ix3 b s g)
      = amax (grp X b s g) := by
  refine (Ideal.multiReduction_maximumf_single (absf (k0_pay2 X)) _ reduces_S4x1536x20x128_S4x1536x20 _ _ (ValueIdx.ix3 b s g)).trans ?_
  unfold amax
  refine Finset.fold_congr fun j _ => ?_
  have e : (reduces_S4x1536x20x128_S4x1536x20.lift (ValueIdx.ix3 b s g) j : S4x1536x20x128.Idx) = ValueIdx.ix4 b s g j := by
    funext a
    match a with
    | ⟨0, _⟩ => rfl
    | ⟨1, _⟩ => rfl
    | ⟨2, _⟩ => rfl
    | ⟨3, _⟩ => rfl
  refine (abs_at (k0_pay2 X) _).trans (congrArg (fun z : EReal => max z (-z)) ?_)
  exact (congrArg (k0_pay2 X) e).trans (pay2_apply X b s g j)

/-- The exponent of a group, from its greatest magnitude; -/
theorem exponent_at (a : FVec Ideal S4x1536x20 .f32) (i : S4x1536x20.Idx) :
    select (cmpf .oeq a (broadcast S4x1536x20 (Scalar.ofBits (F := Ideal) .f32 0x00000000#32)))
      (broadcast S4x1536x20 (Scalar.ofBits (F := Ideal) .f32 0x00000000#32))
      (addf (floor (divf (log (mulf a (broadcast S4x1536x20 (Scalar.ofBits (F := Ideal) .f32 0x3B124925#32))))
        (log (broadcast S4x1536x20 (Scalar.ofBits (F := Ideal) .f32 0x40000000#32)))))
        (broadcast S4x1536x20 (Scalar.ofBits (F := Ideal) .f32 0x3F800000#32))) i
      = rExp (a i) (a i * Ideal.ofBits .f32 0x3B124925#32) := by
  rw [select_eq_at, add_at, floor_at, div_at, log_at, log_at, mul_at, splat_at, splat_at, splat_at, splat_at,
    Ideal.ofBits_zero_f32, Ideal.ofBits_one_f32]
  rfl

theorem pay3_apply (X : Vec Ideal S4x1536x2560 .bf16) (b : Fin 4) (s : Fin 1536) (g : Fin 20) :
    k0_pay3 X (ValueIdx.ix3 b s g) = rExp (amax (grp X b s g)) (quot (grp X b s g)) := by
  unfold k0_pay3
  refine (exponent_at (multiReduction .maximumf [3] S4x1536x20 (absf (k0_pay2 X)) 0xFF800000#32
    reduces_S4x1536x20x128_S4x1536x20 (.inl rfl) rfl) (ValueIdx.ix3 b s g)).trans ?_
  rw [groupmax_apply]
  unfold quot
  exact Eq.refl _

/-- its scale, -/
theorem pay4_apply (X : Vec Ideal S4x1536x2560 .bf16) (b : Fin 4) (s : Fin 1536) (g : Fin 20) :
    k0_pay4 X (ValueIdx.ix3 b s g) = Ideal.exp2 (rExp (amax (grp X b s g)) (quot (grp X b s g))) := by
  unfold k0_pay4
  exact (exp2_at (k0_pay3 X) (ValueIdx.ix3 b s g)).trans (congrArg Ideal.exp2 (pay3_apply X b s g))

/-- A value of each group, spread over the group. -/
theorem spread_apply {α : Type} (v : S4x1536x20.Idx → α) (b : Fin 4) (s : Fin 1536) (g : Fin 20) (j : Fin 128) :
    broadcastTo S4x1536x20x128 (shapeCast S4x1536x20x1 v shapeCasts_S4x1536x20_S4x1536x20x1) broadcasts_S4x1536x20x1_S4x1536x20x128
      (ValueIdx.ix4 b s g j) = v (ValueIdx.ix3 b s g) := by
  rw [broadcastTo_apply _ _ _ (ValueIdx.ix4 b s g 0)
    (fun a => match a with | ⟨0, _⟩ => rfl | ⟨1, _⟩ => rfl | ⟨2, _⟩ => rfl | ⟨3, _⟩ => rfl)]
  refine shapeCast_apply _ _ _ _ ?_
  rw [Shape.rowMajor_val_three, Shape.rowMajor_val_four]
  show (b.val * 1536 + s.val) * 20 + g.val = ((b.val * 1536 + s.val) * 20 + g.val) * 1 + 0
  omega

/-- the codes of its elements, -/
theorem pay5_apply (X : Vec Ideal S4x1536x2560 .bf16) (b : Fin 4) (s : Fin 1536) (g : Fin 20) (j : Fin 128) :
    k0_pay5 X (ValueIdx.ix4 b s g j)
      = clip (grp X b s g j * Ideal.exp2 (0 - rExp (amax (grp X b s g)) (quot (grp X b s g)))) := by
  unfold k0_pay5 clip
  rw [trunc_at, min_at, max_at, splat_at, splat_at, mul_at, spread_apply, exp2_at, sub_at, splat_at, pay2_apply, pay3_apply,
    Ideal.ofBits_zero_f32]

/-- An array of groups, read as rows of columns. -/
theorem cols_apply {α : Type} (v : S4x1536x20x128.Idx → α) (b : Fin 4) (s : Fin 1536) (k : Fin 2560) :
    shapeCast S4x1536x2560 v shapeCasts_S4x1536x20x128_S4x1536x2560 (ValueIdx.ix3 b s k) = v (ValueIdx.ix4 b s (gOf k) (jOf k)) := by
  refine shapeCast_apply _ _ _ _ ?_
  rw [Shape.rowMajor_val_three, Shape.rowMajor_val_four]
  show ((b.val * 1536 + s.val) * 20 + k.val / 128) * 128 + k.val % 128 = (b.val * 1536 + s.val) * 2560 + k.val
  omega

theorem pay6_apply (X : Vec Ideal S4x1536x2560 .bf16) (b : Fin 4) (s : Fin 1536) (k : Fin 2560) :
    k0_pay6 X (ValueIdx.ix3 b s k) = clip (grp X b s (gOf k) (jOf k)
      * Ideal.exp2 (0 - rExp (amax (grp X b s (gOf k))) (quot (grp X b s (gOf k))))) := by
  unfold k0_pay6
  exact (cols_apply _ b s k).trans (pay5_apply X b s (gOf k) (jOf k))

/-- the dequantised activations, -/
theorem pay7_apply (X : Vec Ideal S4x1536x2560 .bf16) (b : Fin 4) (s : Fin 1536) (k : Fin 2560) :
    k0_pay7 X (ValueIdx.ix3 b s k) = clip (grp X b s (gOf k) (jOf k)
      * Ideal.exp2 (0 - rExp (amax (grp X b s (gOf k))) (quot (grp X b s (gOf k)))))
      * Ideal.exp2 (rExp (amax (grp X b s (gOf k))) (quot (grp X b s (gOf k)))) := by
  unfold k0_pay7
  refine (cols_apply _ b s k).trans ?_
  rw [mul_at, ext_at, spread_apply, trunc_at, pay5_apply, pay4_apply]

/-- and the product. -/
theorem pay1_apply (v : FVec Ideal S4x1536x2560 .bf16) (W : Vec Ideal S6400x2560 .fp8e4m3) (S : Vec Ideal S6400x20 .f32)
    (b : Fin 4) (s : Fin 1536) (o : Fin 6400) :
    k0_pay1 v W S (ValueIdx.ix3 b s o)
      = ∑ k : Fin 2560, v (ValueIdx.ix3 b s k) * (W (ValueIdx.ix2 o k) * S (ValueIdx.ix2 o (gOf k))) := by
  unfold k0_pay1
  refine (Ideal.matmul_constant_zero_apply (φ₁ := .bf16) (φ₂ := .bf16) dot_S4x1536x2560_S6400x2560_S4x1536x6400_2_1_01_0_n_n none v _ _).trans ?_
  rw [← Equiv.sum_comp (ValueIdx.contrEquiv1 dot_S4x1536x2560_S6400x2560_S4x1536x6400_2_1_01_0_n_n 2560 rfl rfl).symm]
  refine Finset.sum_congr rfl fun k _ => ?_
  have hk := ValueIdx.contrEquiv1_symm_val dot_S4x1536x2560_S6400x2560_S4x1536x6400_2_1_01_0_n_n 2560 rfl rfl k
  have el : dot_S4x1536x2560_S6400x2560_S4x1536x6400_2_1_01_0_n_n.lhsIdx (ValueIdx.ix3 b s o)
      ((ValueIdx.contrEquiv1 dot_S4x1536x2560_S6400x2560_S4x1536x6400_2_1_01_0_n_n 2560 rfl rfl).symm k) = ValueIdx.ix3 b s k := by
    funext a; apply Fin.ext
    match a with
    | ⟨0, _⟩ => rfl
    | ⟨1, _⟩ => rfl
    | ⟨2, _⟩ => exact hk
  have er : dot_S4x1536x2560_S6400x2560_S4x1536x6400_2_1_01_0_n_n.rhsIdx (ValueIdx.ix3 b s o)
      ((ValueIdx.contrEquiv1 dot_S4x1536x2560_S6400x2560_S4x1536x6400_2_1_01_0_n_n 2560 rfl rfl).symm k) = ValueIdx.ix2 o k := by
    funext a; apply Fin.ext
    match a with
    | ⟨0, _⟩ => rfl
    | ⟨1, _⟩ => exact hk
  rw [el, er]
  refine congrArg (v (ValueIdx.ix3 b s k) * ·) ?_
  refine (shapeCast_apply _ _ _ (ValueIdx.ix3 o (gOf k) (jOf k)) ?_).trans ?_
  · rw [Shape.rowMajor_val_three, Shape.rowMajor_val_two]
    show (o.val * 20 + k.val / 128) * 128 + k.val % 128 = o.val * 2560 + k.val
    omega
  rw [mul_at, broadcastTo_apply _ _ _ (ValueIdx.ix3 o (gOf k) 0)
    (fun a => match a with | ⟨0, _⟩ => rfl | ⟨1, _⟩ => rfl | ⟨2, _⟩ => rfl)]
  rw [shapeCast_apply _ _ _ (ValueIdx.ix2 o k), shapeCast_apply _ _ _ (ValueIdx.ix2 o (gOf k)), ext_at, trunc_at]
  · rw [Shape.rowMajor_val_three, Shape.rowMajor_val_two]
    show o.val * 20 + k.val / 128 = (o.val * 20 + k.val / 128) * 1 + 0
    omega
  · rw [Shape.rowMajor_val_three, Shape.rowMajor_val_two]
    show o.val * 2560 + k.val = (o.val * 20 + k.val / 128) * 128 + k.val % 128
    omega

end Cert.ReferenceIdeal.Gen

end
-- ==== Proof.Range.lean ====
/- What the precondition says of each group: its greatest magnitude over 448 is zero, or lies in the range of the scales' patterns.
   There the kernel's scale and inverse scale are the reference's. -/
module

public import proofs.«01_k».proof.Pre_in_range
public import proofs.«01_k».proof.Proof.Scale
public import Idealize.ShloMosaic.PureOps.Ideal.Laws
public import Idealize.ShloMosaic.Lib.IdealHost
public import Idealize.ShloMosaic.Lib.ValueIdx
public import Idealize.ShloMosaic.Lib.Pipeline.Value

@[expose] public section

set_option maxRecDepth 16384

noncomputable section

namespace Cert.Quant

open Idealize.ShloMosaic

/-- A group in range. -/
def InRange (f : Fin 128 → EReal) : Prop :=
  quot f = 0 ∨ (Ideal.ofBits .f32 0x00800000#32 ≤ quot f ∧ quot f < Ideal.ofBits .f32 0x7E800000#32)

/-- The reciprocal of 448, as the programs write it, is not zero; -/
theorem ofBits_recip_ne : Ideal.ofBits .f32 0x3B124925#32 ≠ 0 := by
  show Ideal.ieee 8 23 0x3B124925#32 ≠ 0
  unfold Ideal.ieee
  rw [if_neg (by decide), if_neg (by decide)]
  refine fun h => absurd (EReal.coe_eq_zero.mp h) ?_
  rw [if_neg (by decide), one_mul]
  have : ∀ (a : ℕ) (z : ℤ), ((2 ^ 23 + a : ℕ) : ℝ) * 2 ^ z ≠ 0 := fun a z => by positivity
  exact this _ _

theorem amax_zero (f : Fin 128 → EReal) : amax f = 0 ↔ quot f = 0 := by
  unfold quot
  constructor
  · intro h; rw [h, zero_mul]
  · intro h
    rcases mul_eq_zero.mp h with h | h
    · exact h
    · exact absurd h ofBits_recip_ne

/-- in range, the quotient is its own magnitude; -/
theorem mag_eq (f : Fin 128 → EReal) (h : InRange f) : mag f = quot f := by
  unfold mag
  have h0 : 0 ≤ quot f := by
    rcases h with h | ⟨h, -⟩
    · exact h.ge
    · refine le_trans ?_ h
      rw [show (0x00800000#32 : BitVec 32) = pow2Bits 1 by decide, ofBits_pow2 1 (by omega) (by omega)]
      exact EReal.coe_nonneg.mpr (by positivity)
  refine max_eq_left (le_trans ?_ h0)
  simpa using h0

/-- the kernel's scale is two to the reference's exponent, and its inverse two to the opposite. -/
theorem scales_eq (f : Fin 128 → EReal) (h : InRange f) :
    kScale (mag f) = Ideal.exp2 (rExp (amax f) (quot f)) ∧ kInv (mag f) = Ideal.exp2 (0 - rExp (amax f) (quot f)) := by
  rw [mag_eq f h]
  exact scale_eq (amax f) (quot f) (amax_zero f) h

end Cert.Quant

namespace Cert.Pre_in_range

open Idealize.ShloMosaic Cert.Quant

theorem facts : Facts where
  bitsLt_bf16_f32 := by decide
  shapeCasts_S4x1536x2560_S4x1536x20x128 := by decide
  reducesTo_S4x1536x20x128_S4x1536x20_d3 := by decide
  h_S_ := by decide
  bcast_S_S4x1536x20 := by decide

theorem reduces : S4x1536x20x128.Reduces [3] S4x1536x20 := by decide

/-- The three comparisons, read at one element. -/
theorem cmp_at (p q l u : FVec Ideal S4x1536x20 .f32) (i : S4x1536x20.Idx)
    (h : ori (cmpf .oeq p q) (andi (cmpf .oge p l) (cmpf .olt p u)) i = 1#1) :
    (p i : EReal) = q i ∨ ((l i : EReal) ≤ p i ∧ (p i : EReal) < u i) := by
  replace h : BitVec.ofBool (decide ((p i : EReal) = q i))
    ||| (BitVec.ofBool (decide ((l i : EReal) ≤ p i)) &&& BitVec.ofBool (decide ((p i : EReal) < u i))) = 1#1 := h
  by_cases h0 : (p i : EReal) = q i
  · exact .inl h0
  · by_cases h1 : (l i : EReal) ≤ p i <;> by_cases h2 : (p i : EReal) < u i
    · exact .inr ⟨h1, h2⟩
    all_goals simp [h0, h1, h2] at h

theorem host_absf_at {s : Shape} (x : FVec Ideal s .f32) (i : s.Idx) : Host.absf x i = (max (x i) (-(x i)) : EReal) := rfl
theorem mul_at {s : Shape} (x y : FVec Ideal s .f32) (i : s.Idx) : mulf x y i = (x i * y i : EReal) := rfl
theorem ext_at {s : Shape} (x : FVec Ideal s .bf16) (h : FTy.bits .bf16 < FTy.bits .f32) (i : s.Idx) : extf .f32 x h i = x i := rfl
theorem const_at {s : Shape} (b : BitVec 32) (i : s.Idx) : constant (F := Ideal) s .f32 b i = Ideal.ofBits .f32 b := rfl

/-- A greatest magnitude over the last axis is its group's. -/
theorem reduce_at (v : FVec Ideal S4x1536x20x128 .f32) (init : FVec Ideal S_ .f32) (h' : S4x1536x20x128.ReducesTo [3] S4x1536x20)
    (hu : 0 < S_.numel) (b : Fin 4) (s : Fin 1536) (g : Fin 20) (f : Fin 128 → EReal)
    (hinit : ∀ i, init i = Ideal.ofBits .f32 0xFF800000#32) (hv : ∀ j, v (ValueIdx.ix4 b s g j) = max (f j) (-(f j))) :
    Host.reduce (FloatOps.maximumf (F := Ideal) (φ := .f32)) v init h' hu (ValueIdx.ix3 b s g) = amax f := by
  refine (Host.reduce_eq_fold_single _ v init h' reduces hu _).trans ?_
  rw [hinit]
  unfold amax
  refine Finset.fold_congr fun j _ => ?_
  have e : (reduces.lift (ValueIdx.ix3 b s g) j : S4x1536x20x128.Idx) = ValueIdx.ix4 b s g j := by
    funext a
    match a with
    | ⟨0, _⟩ => rfl
    | ⟨1, _⟩ => rfl
    | ⟨2, _⟩ => rfl
    | ⟨3, _⟩ => rfl
  exact (congrArg v e).trans (hv j)

section
variable [hF : Facts]

/-- The greatest magnitudes the precondition takes. -/
def maxima (x : FVec Ideal S4x1536x2560 .bf16) : FVec Ideal S4x1536x20 .f32 :=
  Host.reduce (FloatOps.maximumf (F := Ideal) (φ := .f32)) (Host.absf (shapeCast S4x1536x20x128 (extf .f32 x Facts.bitsLt_bf16_f32)
    Facts.shapeCasts_S4x1536x2560_S4x1536x20x128)) (constant S_ .f32 0xFF800000#32)
    Facts.reducesTo_S4x1536x20x128_S4x1536x20_d3 Facts.h_S_

/-- One value at every place. -/
def splat (b : BitVec 32) : FVec Ideal S4x1536x20 .f32 :=
  broadcastInDim S4x1536x20 ![] Facts.bcast_S_S4x1536x20 (constant (F := Ideal) S_ .f32 b)

theorem splat_at (b : BitVec 32) (i : S4x1536x20.Idx) : splat b i = Ideal.ofBits .f32 b := by
  unfold splat
  exact (ValueIdx.broadcastInDim_scalar_apply _ _ i).trans (const_at b _)

theorem fn_eq (x : FVec Ideal S4x1536x2560 .bf16) (w : FVec Ideal S6400x2560 .fp8e4m3) (sc : FVec Ideal S6400x20 .f32) :
    fn (F := Ideal) x w sc = ori (cmpf .oeq (mulf (maxima x) (splat 0x3B124925#32)) (splat 0x00000000#32))
      (andi (cmpf .oge (mulf (maxima x) (splat 0x3B124925#32)) (splat 0x00800000#32))
        (cmpf .olt (mulf (maxima x) (splat 0x3B124925#32)) (splat 0x7E800000#32))) := rfl

theorem maxima_at (x : FVec Ideal S4x1536x2560 .bf16) (b : Fin 4) (s : Fin 1536) (g : Fin 20) :
    maxima x (ValueIdx.ix3 b s g) = amax fun j => x (ValueIdx.ix3 b s ⟨128 * g.val + j.val, by omega⟩) := by
  unfold maxima
  refine reduce_at _ _ _ _ b s g _ (fun i => const_at _ i) fun j => ?_
  rw [host_absf_at]
  refine congrArg (fun z : EReal => max z (-z)) ?_
  refine (shapeCast_apply _ _ _ (ValueIdx.ix3 b s ⟨128 * g.val + j.val, by omega⟩) ?_).trans (ext_at x _ _)
  rw [Shape.rowMajor_val_three, Shape.rowMajor_val_four]
  show (b.val * 1536 + s.val) * 2560 + (128 * g.val + j.val) = ((b.val * 1536 + s.val) * 20 + g.val) * 128 + j.val
  omega

/-- Every group of the activations is in range. -/
theorem inRange (x : FVec Ideal S4x1536x2560 .bf16) (w : FVec Ideal S6400x2560 .fp8e4m3) (sc : FVec Ideal S6400x20 .f32)
    (h : fn (F := Ideal) x w sc = fun _ => 1#1) (b : Fin 4) (s : Fin 1536) (g : Fin 20) :
    InRange fun j => x (ValueIdx.ix3 b s ⟨128 * g.val + j.val, by omega⟩) := by
  have hc := cmp_at _ _ _ _ (ValueIdx.ix3 b s g) ((congrFun (fn_eq x w sc) _).symm.trans (congrFun h (ValueIdx.ix3 b s g)))
  rw [mul_at, splat_at, splat_at, splat_at, splat_at, maxima_at, Ideal.ofBits_zero_f32] at hc
  exact hc

end

end Cert.Pre_in_range

end
-- ==== Proof.Algebra.lean ====
/- The two programs' results are equal over the extended reals, where every group of the activations is in range. -/
module

public import proofs.«01_k».proof.Proof.Elements
public import proofs.«01_k».proof.Proof.RefReads
public import proofs.«01_k».proof.Proof.Range

@[expose] public section

set_option maxRecDepth 16384

noncomputable section

namespace Cert.Proof

open Idealize.ShloMosaic Cert.Quant

variable (x : Vec Ideal Cert.KernelIdeal.S4x1536x2560 .bf16) (W : Vec Ideal Cert.KernelIdeal.S6400x2560 .fp8e4m3)
  (S : Vec Ideal Cert.KernelIdeal.S6400x20 .f32)
  (h : ∀ b s g, InRange (Cert.KernelIdeal.Gen.grp x b s g))
include h

/-- The scales; -/
theorem scales_agree : shapeCast Cert.KernelIdeal.S4x1536x20 (Cert.KernelIdeal.Gen.scalesArr (Cert.KernelIdeal.Gen.rows x))
      Cert.KernelIdeal.Facts₀.shapeCasts_S6144x20_S4x1536x20
    = (Cert.ReferenceIdeal.Gen.k0_pay4 (F := Ideal) x : Cert.KernelIdeal.S4x1536x20.Idx → EReal) := by
  funext i
  obtain ⟨b, s, g, rfl⟩ : ∃ (b : Fin 4) (s : Fin 1536) (g : Fin 20), i = ValueIdx.ix3 b s g := ⟨_, _, _, ValueIdx.eq_ix3 i⟩
  refine (Cert.KernelIdeal.Gen.scales_apply x b s g).trans ?_
  exact (scales_eq _ (h b s g)).1.trans (Cert.ReferenceIdeal.Gen.pay4_apply x b s g).symm

/-- the codes; -/
theorem codes_agree : shapeCast Cert.KernelIdeal.S4x1536x2560 (Cert.KernelIdeal.Gen.codesArr (Cert.KernelIdeal.Gen.rows x))
      Cert.KernelIdeal.Facts₀.shapeCasts_S6144x2560_S4x1536x2560
    = (Cert.ReferenceIdeal.Gen.k0_pay6 (F := Ideal) x : Cert.KernelIdeal.S4x1536x2560.Idx → EReal) := by
  funext i
  obtain ⟨b, s, k, rfl⟩ : ∃ (b : Fin 4) (s : Fin 1536) (k : Fin 2560), i = ValueIdx.ix3 b s k := ⟨_, _, _, ValueIdx.eq_ix3 i⟩
  refine (Cert.KernelIdeal.Gen.codes_apply x b s k).trans ?_
  rw [(scales_eq _ (h b s (Cert.KernelIdeal.Gen.gOf k))).2]
  exact (Cert.ReferenceIdeal.Gen.pay6_apply x b s k).symm

/-- and the product. -/
theorem y_agree : shapeCast Cert.KernelIdeal.S4x1536x6400 (Cert.KernelIdeal.Gen.yArr (Cert.KernelIdeal.Gen.rows x) W S)
      Cert.KernelIdeal.Facts₀.shapeCasts_S6144x6400_S4x1536x6400
    = (Cert.ReferenceIdeal.Gen.k0_pay1 (F := Ideal) (Cert.ReferenceIdeal.Gen.k0_pay7 x) W S : Cert.KernelIdeal.S4x1536x6400.Idx → EReal) := by
  funext i
  obtain ⟨b, s, o, rfl⟩ : ∃ (b : Fin 4) (s : Fin 1536) (o : Fin 6400), i = ValueIdx.ix3 b s o := ⟨_, _, _, ValueIdx.eq_ix3 i⟩
  refine (Cert.KernelIdeal.Gen.y_apply x W S b s o).trans ?_
  refine Eq.trans ?_ (Cert.ReferenceIdeal.Gen.pay1_apply (Cert.ReferenceIdeal.Gen.k0_pay7 x) W S b s o).symm
  refine Finset.sum_congr rfl fun k _ => ?_
  refine congrArg (· * (W (ValueIdx.ix2 o k) * S (ValueIdx.ix2 o (Cert.KernelIdeal.Gen.gOf k)))) ?_
  rw [(scales_eq _ (h b s (Cert.KernelIdeal.Gen.gOf k))).1, (scales_eq _ (h b s (Cert.KernelIdeal.Gen.gOf k))).2]
  exact (Cert.ReferenceIdeal.Gen.pay7_apply x b s k).symm

end Cert.Proof

end
-- ==== Proof.lean ====
/- The claims, from the modules under `Proof`. -/
module

public import proofs.«01_k».proof.Defs
public import proofs.«01_k».proof.Proof.Transfer
public import proofs.«01_k».proof.Proof.Algebra

@[expose] public section

set_option maxRecDepth 16384

noncomputable section

namespace Cert.Proof

open Idealize.ShloMosaic Idealize.SL.Sem

/-- The three results agree. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.facts) := by
  intro m g m' g' hpre hargs
  have hin : ∀ (c : Dev Cert.KernelIdeal.nD) b s k, Cert.Quant.InRange (Cert.KernelIdeal.Gen.grp
      (m ((c.tc : Thread Cert.KernelIdeal.nD Cert.KernelIdeal.τ).loc Cert.KernelIdeal.main_arg0)) b s k) := fun c b s k =>
    Cert.Pre_in_range.inRange (hF := Cert.Pre_in_range.facts) _ _ _ (hpre c) b s k
  refine ⟨_, _, _, Cert.KernelIdeal.Gen.run m g, ?_⟩
  refine (θ_run _ _ _).mono (fun r hr c => ?_) (Cert.ReferenceIdeal.Gen.run m' g')
  obtain ⟨r0, r1, r2, k0, k1, k2⟩ := hr c
  obtain ⟨a0, a1, a2⟩ := hargs c
  rw [a0] at r1 r2
  rw [a0, a1, a2] at r0
  exact ⟨r0.trans (y_agree _ _ _ (hin c)).symm, r1.trans (codes_agree _ (hin c)).symm, r2.trans (scales_agree _ (hin c)).symm, k0, k1, k2⟩

theorem claim : Cert.Claim :=
  ⟨Cert.Kernel.Gen.facts, Cert.KernelIdeal.Gen.facts, Cert.ReferenceIdeal.Gen.facts, Cert.Pre_in_range.facts,
    fun m g _ => kernel_frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    algebraic⟩

end Cert.Proof

end
